-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_real_data [hPre_real_data : Cert.Pre_real_data.Facts] (m : (ℓ : Loc Cert.KernelIdeal.nD Cert.KernelIdeal.τ Cert.KernelIdeal.sig) → Buf (Elt Ideal) ℓ) : Prop :=
  ∀ c : Dev Cert.KernelIdeal.nD,
    (Cert.Pre_real_data.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_real_data [hPre_real_data : Cert.Pre_real_data.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_real_data.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_real_data [hKernelIdeal : Cert.KernelIdeal.Facts] [hPre_real_data : Cert.Pre_real_data.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_real_data m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_real_data [hReferenceIdeal : Cert.ReferenceIdeal.Facts] [hPre_real_data : Cert.Pre_real_data.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_real_data m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_real_data [hKernelIdeal : Cert.KernelIdeal.Facts] [hReferenceIdeal : Cert.ReferenceIdeal.Facts] [hPre_real_data : Cert.Pre_real_data.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_real_data m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v8)) (v1 : (c : Dev Cert.KernelIdeal.nD) → Buf (Elt Ideal) ((c.tc : Thread Cert.KernelIdeal.nD Cert.KernelIdeal.τ).loc Cert.KernelIdeal.main_v9)) (v2 : (c : Dev Cert.KernelIdeal.nD) → Buf (Elt Ideal) ((c.tc : Thread Cert.KernelIdeal.nD Cert.KernelIdeal.τ).loc Cert.KernelIdeal.main_arg1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_v9) = v1 c
          ∧ r.2.mem ((c.tc : Thread Cert.KernelIdeal.nD Cert.KernelIdeal.τ).loc Cert.KernelIdeal.main_arg1) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_v20) = v1 c
          ∧ r.2.mem ((c.tc : Thread Cert.ReferenceIdeal.nD Cert.ReferenceIdeal.τ).loc Cert.ReferenceIdeal.main_arg1) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_real_data : Cert.Pre_real_data.Facts),
    quiescent_Kernel (hKernel := hKernel)
    ∧ quiescent_KernelIdeal (hKernelIdeal := hKernelIdeal)
    ∧ quiescent_KernelIdeal_pre_real_data (hKernelIdeal := hKernelIdeal) (hPre_real_data := hPre_real_data)
    ∧ quiescent_ReferenceIdeal (hReferenceIdeal := hReferenceIdeal)
    ∧ quiescent_ReferenceIdeal_pre_real_data (hReferenceIdeal := hReferenceIdeal) (hPre_real_data := hPre_real_data)
    ∧ preserves_Kernel_KernelIdeal
    ∧ algebraic_KernelIdeal_ReferenceIdeal_pre_real_data (hKernelIdeal := hKernelIdeal) (hReferenceIdeal := hReferenceIdeal) (hPre_real_data := hPre_real_data)
-- ==== Pre_real_data.lean ====
abbrev S16384x16x32 : Shape := ⟨3, ![16384, 16, 32]⟩
abbrev S16x512x32 : Shape := ⟨3, ![16, 512, 32]⟩
abbrev S16 : Shape := ⟨1, ![16]⟩
abbrev S_ : Shape := ⟨0, ![]⟩

class Facts : Prop where
  bcast_S_S16384x16x32 : S_.BroadcastsInDim S16384x16x32 (![] : Fin 0 → Fin S16384x16x32.rank)
  reducesTo_S16384x16x32_S_d0_1_2 : S16384x16x32.ReducesTo [0, 1, 2] S_
  h_S_ : 0 < S_.numel
  bcast_S_S16x512x32 : S_.BroadcastsInDim S16x512x32 (![] : Fin 0 → Fin S16x512x32.rank)
  reducesTo_S16x512x32_S_d0_1_2 : S16x512x32.ReducesTo [0, 1, 2] S_
  bcast_S_S16 : S_.BroadcastsInDim S16 (![] : Fin 0 → Fin S16.rank)
  reducesTo_S16_S_d0 : S16.ReducesTo [0] S_

variable [Facts]

def fn_part1 {F : FTy → Type} [FloatOps F] (main_v15 : IVec S_ 1) (main_v16 : FVec F S16 .f32) : IVec S_ 1 :=
  let main_cst_5 : FVec F S_ .f32 := constant S_ .f32 0x7F800000#32
  let main_v17 : FVec F S16 .f32 := broadcastInDim S16 ![] bcast_S_S16 main_cst_5
  let main_v18 : IVec S16 1 := cmpf .olt main_v16 main_v17
  let main_c_6 : IVec S_ 1 := constantI S_ 1 1#1
  let main_v19 : IVec S_ 1 := (fun x v => Host.reduce IntOp.andi x v reducesTo_S16_S_d0 h_S_) main_v18 main_c_6
  let main_v20 : IVec S_ 1 := andi main_v15 main_v19
  main_v20

def fn {F : FTy → Type} [FloatOps F] (main_arg0 : FVec F S16384x16x32 .f32) (main_arg1 : FVec F S16x512x32 .f32) (main_arg2 : FVec F S16 .f32) (main_arg3 : FVec F S16 .f32) : IVec S_ 1 :=
  let main_v0 : FVec F S16384x16x32 .f32 := Host.absf main_arg0
  let main_cst : FVec F S_ .f32 := constant S_ .f32 0x7F800000#32
  let main_v1 : FVec F S16384x16x32 .f32 := broadcastInDim S16384x16x32 ![] bcast_S_S16384x16x32 main_cst
  let main_v2 : IVec S16384x16x32 1 := cmpf .olt main_v0 main_v1
  let main_c : IVec S_ 1 := constantI S_ 1 1#1
  let main_v3 : IVec S_ 1 := (fun x v => Host.reduce IntOp.andi x v reducesTo_S16384x16x32_S_d0_1_2 h_S_) main_v2 main_c
  let main_v4 : FVec F S16x512x32 .f32 := Host.absf main_arg1
  let main_cst_0 : FVec F S_ .f32 := constant S_ .f32 0x7F800000#32
  let main_v5 : FVec F S16x512x32 .f32 := broadcastInDim S16x512x32 ![] bcast_S_S16x512x32 main_cst_0
  let main_v6 : IVec S16x512x32 1 := cmpf .olt main_v4 main_v5
  let main_c_1 : IVec S_ 1 := constantI S_ 1 1#1
  let main_v7 : IVec S_ 1 := (fun x v => Host.reduce IntOp.andi x v reducesTo_S16x512x32_S_d0_1_2 h_S_) main_v6 main_c_1
  let main_v8 : IVec S_ 1 := andi main_v3 main_v7
  let main_cst_2 : FVec F S_ .f32 := constant S_ .f32 0x00000000#32
  let main_v9 : FVec F S16 .f32 := broadcastInDim S16 ![] bcast_S_S16 main_cst_2
  let main_v10 : IVec S16 1 := cmpf .ogt main_arg2 main_v9
  let main_cst_3 : FVec F S_ .f32 := constant S_ .f32 0x7F800000#32
  let main_v11 : FVec F S16 .f32 := broadcastInDim S16 ![] bcast_S_S16 main_cst_3
  let main_v12 : IVec S16 1 := cmpf .olt main_arg2 main_v11
  let main_v13 : IVec S16 1 := andi main_v10 main_v12
  let main_c_4 : IVec S_ 1 := constantI S_ 1 1#1
  let main_v14 : IVec S_ 1 := (fun x v => Host.reduce IntOp.andi x v reducesTo_S16_S_d0 h_S_) main_v13 main_c_4
  let main_v15 : IVec S_ 1 := andi main_v8 main_v14
  let main_v16 : FVec F S16 .f32 := Host.absf main_arg3
  fn_part1 (F := F) main_v15 main_v16
-- ==== Kernel.lean ====
abbrev S16384x16x32 : Shape := ⟨3, ![16384, 16, 32]⟩
abbrev S16x512x32 : Shape := ⟨3, ![16, 512, 32]⟩
abbrev S16 : Shape := ⟨1, ![16]⟩
abbrev S16x32x16384 : Shape := ⟨3, ![16, 32, 16384]⟩
abbrev S512x16384 : Shape := ⟨2, ![512, 16384]⟩
abbrev S16x32x512 : Shape := ⟨3, ![16, 32, 512]⟩
abbrev S16x16384 : Shape := ⟨2, ![16, 16384]⟩
abbrev S512x1 : Shape := ⟨2, ![512, 1]⟩
abbrev S4x128x128 : Shape := ⟨3, ![4, 128, 128]⟩
abbrev S512x2048 : Shape := ⟨2, ![512, 2048]⟩
abbrev S16x2048 : Shape := ⟨2, ![16, 2048]⟩
abbrev S128x2048 : Shape := ⟨2, ![128, 2048]⟩
abbrev S128x1 : Shape := ⟨2, ![128, 1]⟩
abbrev S128 : Shape := ⟨1, ![128]⟩
abbrev S1x128x128 : Shape := ⟨3, ![1, 128, 128]⟩
abbrev S128x128 : Shape := ⟨2, ![128, 128]⟩
abbrev S32x2048 : Shape := ⟨2, ![32, 2048]⟩
abbrev S1x32x512 : Shape := ⟨3, ![1, 32, 512]⟩
abbrev S32x512 : Shape := ⟨2, ![32, 512]⟩
abbrev S2048 : Shape := ⟨1, ![2048]⟩
abbrev S1x2048 : Shape := ⟨2, ![1, 2048]⟩
abbrev S_ : Shape := ⟨0, ![]⟩
abbrev S1x1 : Shape := ⟨2, ![1, 1]⟩
abbrev S16x1 : Shape := ⟨2, ![16, 1]⟩
abbrev S32x1 : Shape := ⟨2, ![32, 1]⟩
abbrev S1x32x32 : Shape := ⟨3, ![1, 32, 32]⟩
abbrev S32x32 : Shape := ⟨2, ![32, 32]⟩
abbrev S1x512x1 : Shape := ⟨3, ![1, 512, 1]⟩
abbrev S1 : Shape := ⟨1, ![1]⟩
abbrev S1x1x1 : Shape := ⟨3, ![1, 1, 1]⟩
abbrev S16384x16 : Shape := ⟨2, ![16384, 16]⟩

abbrev nBuf : Space → Nat
  | .hbm => 18
  | .vmem => 17
  | .smem => 0
  | _ => 0

abbrev bufTy : (tb : Table) → Fin (tcTables nBuf tb) → BufTy
  | .hbm, ⟨0, _⟩ => ⟨S16384x16x32, .f32⟩
  | .hbm, ⟨1, _⟩ => ⟨S16x512x32, .f32⟩
  | .hbm, ⟨2, _⟩ => ⟨S16, .f32⟩
  | .hbm, ⟨3, _⟩ => ⟨S16, .f32⟩
  | .hbm, ⟨4, _⟩ => ⟨S16x32x16384, .f32⟩
  | .hbm, ⟨5, _⟩ => ⟨S512x16384, .f32⟩
  | .hbm, ⟨6, _⟩ => ⟨S16x32x512, .f32⟩
  | .hbm, ⟨7, _⟩ => ⟨S16x16384, .i32⟩
  | .hbm, ⟨8, _⟩ => ⟨S16x16384, .f32⟩
  | .hbm, ⟨9, _⟩ => ⟨S512x1, .f32⟩
  | .hbm, ⟨10, _⟩ => ⟨S4x128x128, .f32⟩
  | .hbm, ⟨11, _⟩ => ⟨S_, .f32⟩
  | .hbm, ⟨12, _⟩ => ⟨S1x1, .f32⟩
  | .hbm, ⟨13, _⟩ => ⟨S16x1, .f32⟩
  | .hbm, ⟨14, _⟩ => ⟨S16x1, .f32⟩
  | .hbm, ⟨15, _⟩ => ⟨S16x16384, .f32⟩
  | .hbm, ⟨16, _⟩ => ⟨S16384x16, .i32⟩
  | .hbm, ⟨17, _⟩ => ⟨S16384x16, .f32⟩
  | .local _ .vmem, ⟨0, _⟩ => ⟨S512x2048, .f32⟩
  | .local _ .vmem, ⟨1, _⟩ => ⟨S512x2048, .f32⟩
  | .local _ .vmem, ⟨2, _⟩ => ⟨S16x32x512, .f32⟩
  | .local _ .vmem, ⟨3, _⟩ => ⟨S16x2048, .i32⟩
  | .local _ .vmem, ⟨4, _⟩ => ⟨S16x2048, .i32⟩
  | .local _ .vmem, ⟨5, _⟩ => ⟨S16x2048, .f32⟩
  | .local _ .vmem, ⟨6, _⟩ => ⟨S16x2048, .f32⟩
  | .local _ .vmem, ⟨7, _⟩ => ⟨S512x1, .f32⟩
  | .local _ .vmem, ⟨8, _⟩ => ⟨S4x128x128, .f32⟩
  | .local _ .vmem, ⟨9, _⟩ => ⟨S16x16384, .f32⟩
  | .local _ .vmem, ⟨10, _⟩ => ⟨S512x1, .f32⟩
  | .local _ .vmem, ⟨11, _⟩ => ⟨S4x128x128, .f32⟩
  | .local _ .vmem, ⟨12, _⟩ => ⟨S16x32x512, .f32⟩
  | .local _ .vmem, ⟨13, _⟩ => ⟨S16x1, .f32⟩
  | .local _ .vmem, ⟨14, _⟩ => ⟨S16x1, .f32⟩
  | .local _ .vmem, ⟨15, _⟩ => ⟨S1x1, .f32⟩
  | .local _ .vmem, ⟨16, _⟩ => ⟨S16x16384, .f32⟩
  | _, _ => ⟨S16384x16x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v3_3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc1_stg0_0 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg7_0 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc1_sem0_0 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem6_0 : DmaSem sig := 15
abbrev cc1_sem7_0 : DmaSem sig := 16

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x32x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S16x2048 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S512x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S16x16384 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S512x1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S4x128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S16x32x512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S16x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S16x1 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x1 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S16x16384 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]
-- ==== ReferenceIdeal.lean ====
abbrev S16384x16x32 : Shape := ⟨3, ![16384, 16, 32]⟩
abbrev S16x512x32 : Shape := ⟨3, ![16, 512, 32]⟩
abbrev S16 : Shape := ⟨1, ![16]⟩
abbrev S16x512x16384 : Shape := ⟨3, ![16, 512, 16384]⟩
abbrev S16384x16x512 : Shape := ⟨3, ![16384, 16, 512]⟩
abbrev S_ : Shape := ⟨0, ![]⟩
abbrev S1x16x1 : Shape := ⟨3, ![1, 16, 1]⟩
abbrev S16384x16 : Shape := ⟨2, ![16384, 16]⟩

abbrev nBuf : Space → Nat
  | .hbm => 57
  | .vmem => 0
  | .smem => 0
  | _ => 0

abbrev bufTy : (tb : Table) → Fin (tcTables nBuf tb) → BufTy
  | .hbm, ⟨0, _⟩ => ⟨S16384x16x32, .f32⟩
  | .hbm, ⟨1, _⟩ => ⟨S16x512x32, .f32⟩
  | .hbm, ⟨2, _⟩ => ⟨S16, .f32⟩
  | .hbm, ⟨3, _⟩ => ⟨S16, .f32⟩
  | .hbm, ⟨4, _⟩ => ⟨S16x512x16384, .f32⟩
  | .hbm, ⟨5, _⟩ => ⟨S16384x16x512, .f32⟩
  | .hbm, ⟨6, _⟩ => ⟨S_, .f32⟩
  | .hbm, ⟨7, _⟩ => ⟨S16, .f32⟩
  | .hbm, ⟨8, _⟩ => ⟨S1x16x1, .f32⟩
  | .hbm, ⟨9, _⟩ => ⟨S_, .f32⟩
  | .hbm, ⟨10, _⟩ => ⟨S1x16x1, .f32⟩
  | .hbm, ⟨11, _⟩ => ⟨S1x16x1, .f32⟩
  | .hbm, ⟨12, _⟩ => ⟨S_, .i32⟩
  | .hbm, ⟨13, _⟩ => ⟨S_, .f32⟩
  | .hbm, ⟨14, _⟩ => ⟨S16, .f32⟩
  | .hbm, ⟨15, _⟩ => ⟨S1x16x1, .f32⟩
  | .hbm, ⟨16, _⟩ => ⟨S_, .f32⟩
  | .hbm, ⟨17, _⟩ => ⟨S1x16x1, .f32⟩
  | .hbm, ⟨18, _⟩ => ⟨S1x16x1, .f32⟩
  | .hbm, ⟨19, _⟩ => ⟨S16384x16x512, .f32⟩
  | .hbm, ⟨20, _⟩ => ⟨S16384x16x512, .f32⟩
  | .hbm, ⟨21, _⟩ => ⟨S16384x16x512, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S16, .f32⟩
  | .hbm, ⟨27, _⟩ => ⟨S1x16x1, .f32⟩
  | .hbm, ⟨28, _⟩ => ⟨S1x16x1, .f32⟩
  | .hbm, ⟨29, _⟩ => ⟨S1x16x1, .f32⟩
  | .hbm, ⟨30, _⟩ => ⟨S_, .f32⟩
  | .hbm, ⟨31, _⟩ => ⟨S_, .i1⟩
  | .hbm, ⟨32, _⟩ => ⟨S_, .f32⟩
  | .hbm, ⟨33, _⟩ => ⟨S_, .f32⟩
  | .hbm, ⟨34, _⟩ => ⟨S1x16x1, .f32⟩
  | .hbm, ⟨35, _⟩ => ⟨S1x16x1, .f32⟩
  | .hbm, ⟨36, _⟩ => ⟨S16384x16x512, .f32⟩
  | .hbm, ⟨37, _⟩ => ⟨S16384x16x512, .f32⟩
  | .hbm, ⟨38, _⟩ => ⟨S_, .f32⟩
  | .hbm, ⟨39, _⟩ => ⟨S1x16x1, .f32⟩
  | .hbm, ⟨40, _⟩ => ⟨S1x16x1, .f32⟩
  | .hbm, ⟨41, _⟩ => ⟨S1x16x1, .f32⟩
  | .hbm, ⟨42, _⟩ => ⟨S16384x16x512, .f32⟩
  | .hbm, ⟨43, _⟩ => ⟨S16384x16x512, .f32⟩
  | .hbm, ⟨44, _⟩ => ⟨S1x16x1, .f32⟩
  | .hbm, ⟨45, _⟩ => ⟨S16384x16x512, .f32⟩
  | .hbm, ⟨46, _⟩ => ⟨S16384x16x512, .f32⟩
  | .hbm, ⟨47, _⟩ => ⟨S1x16x1, .f32⟩
  | .hbm, ⟨48, _⟩ => ⟨S16384x16x512, .f32⟩
  | .hbm, ⟨49, _⟩ => ⟨S16384x16x512, .f32⟩
  | .hbm, ⟨50, _⟩ => ⟨S_, .f32⟩
  | .hbm, ⟨51, _⟩ => ⟨S16384x16, .f32⟩
  | .hbm, ⟨52, _⟩ => ⟨S16384x16x512, .i32⟩
  | .hbm, ⟨53, _⟩ => ⟨S_, .f32⟩
  | .hbm, ⟨54, _⟩ => ⟨S_, .i32⟩
  | .hbm, ⟨55, _⟩ => ⟨S16384x16, .f32⟩
  | .hbm, ⟨56, _⟩ => ⟨S16384x16, .i32⟩
  | _, _ => ⟨S16384x16x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_c : Ref sig .tc := ⟨.hbm, 12, rfl⟩
abbrev main_call0_cst : Ref sig .tc := ⟨.hbm, 13, rfl⟩
abbrev main_call0_v0 : Ref sig .tc := ⟨.hbm, 14, rfl⟩
abbrev main_call0_v1 : Ref sig .tc := ⟨.hbm, 15, rfl⟩
abbrev main_call0_cst_0 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_v6 : Ref sig .tc := ⟨.hbm, 21, rfl⟩
abbrev main_call0_v7 : Ref sig .tc := ⟨.hbm, 22, rfl⟩
abbrev main_call0_cst_1 : Ref sig .tc := ⟨.hbm, 23, rfl⟩
abbrev main_call0_v8 : Ref sig .tc := ⟨.hbm, 24, rfl⟩
abbrev main_call0_cst_2 : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_v12 : Ref sig .tc := ⟨.hbm, 29, rfl⟩
abbrev main_call0_cst_3 : Ref sig .tc := ⟨.hbm, 30, rfl⟩
abbrev main_call0_v13 : Ref sig .tc := ⟨.hbm, 31, rfl⟩
abbrev main_call0_cst_4 : Ref sig .tc := ⟨.hbm, 32, rfl⟩
abbrev main_call0_call0_v0 : Ref sig .tc := ⟨.hbm, 33, rfl⟩
abbrev main_call0_call0_v1 : Ref sig .tc := ⟨.hbm, 34, rfl⟩
abbrev main_v6 : Ref sig .tc := ⟨.hbm, 35, rfl⟩
abbrev main_v7 : Ref sig .tc := ⟨.hbm, 36, rfl⟩
abbrev main_v8 : Ref sig .tc := ⟨.hbm, 37, rfl⟩
abbrev main_cst_1 : Ref sig .tc := ⟨.hbm, 38, rfl⟩
abbrev main_v9 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_cst_2 : Ref sig .tc := ⟨.hbm, 50, rfl⟩
abbrev main_v20 : Ref sig .tc := ⟨.hbm, 51, rfl⟩
abbrev main_call1_v0 : Ref sig .tc := ⟨.hbm, 52, rfl⟩
abbrev main_call1_cst : Ref sig .tc := ⟨.hbm, 53, rfl⟩
abbrev main_call1_c : Ref sig .tc := ⟨.hbm, 54, rfl⟩
abbrev main_call1_v1_0 : Ref sig .tc := ⟨.hbm, 55, rfl⟩
abbrev main_v21 : Ref sig .tc := ⟨.hbm, 56, rfl⟩

abbrev nD : Nat := 1
abbrev τ : Topo := Topo.v7x

variable {F : FTy → Type} [FloatOps F]
-- ==== Proof.RefRun.lean ====
/-
  What the reference computes, as a run: its operations one after another (the called functions' bodies written out at
  the buffers of each call), each array it returns as a function of the argument arrays.
-/
module

public import proofs.«01_k».proof.Defs
public import proofs.«01_k».proof.Proof.Gen.ReferenceIdeal
public import Idealize.ShloMosaic.Lib.Quiescent
public import Idealize.ShloMosaic.Lib.StableHlo.Run
public import Idealize.ShloMosaic.Lib.Pipeline.Regions

@[expose] public section

set_option maxRecDepth 16384

noncomputable section

namespace Cert.ReferenceIdeal.Whole

open Idealize.ShloMosaic Idealize.ShloMosaic.TcCoe Idealize.SL.Sem
open Cert.ReferenceIdeal Cert.ReferenceIdeal.Gen Idealize.ShloMosaic.StableHlo

variable {F : FTy → Type} [FloatOps F]

/-- The reference's operations in order, those of the called functions in the place of each call. -/
abbrev ops : List (HloOp τ sig (Elt F)) :=
  [ binary main_arg1 main_arg0 main_v0 ((fun l r => Host.dotGeneral dot_S16x512x32_S16384x16x32_S16x512x16384_2_2_1_0_0_1 none l r) : (⟨S16x512x32, .f32⟩ : BufTy).Contents (Elt F) → (⟨S16384x16x32, .f32⟩ : BufTy).Contents (Elt F) → (⟨S16x512x16384, .f32⟩ : BufTy).Contents (Elt F)),
    unary main_v0 main_v1 ((transpose S16384x16x512 [2, 0, 1] · transposes_S16x512x16384_S16384x16x512_2_0_1) : (⟨S16x512x16384, .f32⟩ : BufTy).Contents (Elt F) → (⟨S16384x16x512, .f32⟩ : BufTy).Contents (Elt F)),
    nullary main_cst (constant S_ .f32 0x00000000#32),
    binary main_v1 main_cst main_v2 ((fun x v => Host.reduceAdd x v reducesTo_S16384x16x512_S16_d0_2 h_S_) : (⟨S16384x16x512, .f32⟩ : BufTy).Contents (Elt F) → (⟨S_, .f32⟩ : BufTy).Contents (Elt F) → (⟨S16, .f32⟩ : BufTy).Contents (Elt F)),
    unary main_v2 main_v3 (broadcastInDim S1x16x1 ![1] bcast_S16_S1x16x1_1 : (⟨S16, .f32⟩ : BufTy).Contents (Elt F) → (⟨S1x16x1, .f32⟩ : BufTy).Contents (Elt F)),
    nullary main_cst_0 (constant S_ .f32 0x4B000000#32),
    unary main_cst_0 main_v4 (broadcastInDim S1x16x1 ![] bcast_S_S1x16x1 : (⟨S_, .f32⟩ : BufTy).Contents (Elt F) → (⟨S1x16x1, .f32⟩ : BufTy).Contents (Elt F)),
    binary main_v3 main_v4 main_v5 (Host.divf : (⟨S1x16x1, .f32⟩ : BufTy).Contents (Elt F) → (⟨S1x16x1, .f32⟩ : BufTy).Contents (Elt F) → (⟨S1x16x1, .f32⟩ : BufTy).Contents (Elt F)),
    nullary main_c (constantI S_ 32 0#32),
    nullary main_call0_cst (constant S_ .f32 0x00000000#32),
    binary main_v1 main_call0_cst main_call0_v0 ((fun x v => Host.reduceAdd x v reducesTo_S16384x16x512_S16_d0_2 h_S_) : (⟨S16384x16x512, .f32⟩ : BufTy).Contents (Elt F) → (⟨S_, .f32⟩ : BufTy).Contents (Elt F) → (⟨S16, .f32⟩ : BufTy).Contents (Elt F)),
    unary main_call0_v0 main_call0_v1 ((broadcastInDim S1x16x1 ![1] bcast_S16_S1x16x1_1) : (⟨S16, .f32⟩ : BufTy).Contents (Elt F) → (⟨S1x16x1, .f32⟩ : BufTy).Contents (Elt F)),
    nullary main_call0_cst_0 (constant S_ .f32 0x4B000000#32),
    unary main_call0_cst_0 main_call0_v2 ((broadcastInDim S1x16x1 ![] bcast_S_S1x16x1) : (⟨S_, .f32⟩ : BufTy).Contents (Elt F) → (⟨S1x16x1, .f32⟩ : BufTy).Contents (Elt F)),
    binary main_call0_v1 main_call0_v2 main_call0_v3 (Host.divf : (⟨S1x16x1, .f32⟩ : BufTy).Contents (Elt F) → (⟨S1x16x1, .f32⟩ : BufTy).Contents (Elt F) → (⟨S1x16x1, .f32⟩ : BufTy).Contents (Elt F)),
    unary main_call0_v3 main_call0_v4 ((broadcastInDim S16384x16x512 ![0, 1, 2] bcast_S1x16x1_S16384x16x512_0_1_2) : (⟨S1x16x1, .f32⟩ : BufTy).Contents (Elt F) → (⟨S16384x16x512, .f32⟩ : BufTy).Contents (Elt F)),
    binary main_v1 main_call0_v4 main_call0_v5 (subf : (⟨S16384x16x512, .f32⟩ : BufTy).Contents (Elt F) → (⟨S16384x16x512, .f32⟩ : BufTy).Contents (Elt F) → (⟨S16384x16x512, .f32⟩ : BufTy).Contents (Elt F)),
    binary main_call0_v5 main_call0_v5 main_call0_v6 (mulf : (⟨S16384x16x512, .f32⟩ : BufTy).Contents (Elt F) → (⟨S16384x16x512, .f32⟩ : BufTy).Contents (Elt F) → (⟨S16384x16x512, .f32⟩ : BufTy).Contents (Elt F)),
    unary main_c main_call0_v7 ((sitofp .f32) : (⟨S_, .i32⟩ : BufTy).Contents (Elt F) → (⟨S_, .f32⟩ : BufTy).Contents (Elt F)),
    nullary main_call0_cst_1 (constant S_ .f32 0x4B000000#32),
    binary main_call0_cst_1 main_call0_v7 main_call0_v8 (subf : (⟨S_, .f32⟩ : BufTy).Contents (Elt F) → (⟨S_, .f32⟩ : BufTy).Contents (Elt F) → (⟨S_, .f32⟩ : BufTy).Contents (Elt F)),
    nullary main_call0_cst_2 (constant S_ .f32 0x00000000#32),
    binary main_call0_v6 main_call0_cst_2 main_call0_v9 ((fun x v => Host.reduceAdd x v reducesTo_S16384x16x512_S16_d0_2 h_S_) : (⟨S16384x16x512, .f32⟩ : BufTy).Contents (Elt F) → (⟨S_, .f32⟩ : BufTy).Contents (Elt F) → (⟨S16, .f32⟩ : BufTy).Contents (Elt F)),
    unary main_call0_v9 main_call0_v10 ((broadcastInDim S1x16x1 ![1] bcast_S16_S1x16x1_1) : (⟨S16, .f32⟩ : BufTy).Contents (Elt F) → (⟨S1x16x1, .f32⟩ : BufTy).Contents (Elt F)),
    unary main_call0_v8 main_call0_v11 ((broadcastInDim S1x16x1 ![] bcast_S_S1x16x1) : (⟨S_, .f32⟩ : BufTy).Contents (Elt F) → (⟨S1x16x1, .f32⟩ : BufTy).Contents (Elt F)),
    binary main_call0_v10 main_call0_v11 main_call0_v12 (Host.divf : (⟨S1x16x1, .f32⟩ : BufTy).Contents (Elt F) → (⟨S1x16x1, .f32⟩ : BufTy).Contents (Elt F) → (⟨S1x16x1, .f32⟩ : BufTy).Contents (Elt F)),
    nullary main_call0_cst_3 (constant S_ .f32 0x00000000#32),
    binary main_call0_v8 main_call0_cst_3 main_call0_v13 ((cmpf .ogt) : (⟨S_, .f32⟩ : BufTy).Contents (Elt F) → (⟨S_, .f32⟩ : BufTy).Contents (Elt F) → (⟨S_, .i1⟩ : BufTy).Contents (Elt F)),
    nullary main_call0_cst_4 (constant S_ .f32 0x7FC00000#32),
    unary main_call0_cst_4 main_call0_call0_v0 (id : (⟨S_, .f32⟩ : BufTy).Contents (Elt F) → (⟨S_, .f32⟩ : BufTy).Contents (Elt F)),
    unary main_call0_call0_v0 main_call0_call0_v1 ((broadcastInDim S1x16x1 ![] bcast_S_S1x16x1) : (⟨S_, .f32⟩ : BufTy).Contents (Elt F) → (⟨S1x16x1, .f32⟩ : BufTy).Contents (Elt F)),
    ternary main_call0_v13 main_call0_v12 main_call0_call0_v1 main_v6 ((fun p a b => select (broadcastInDim S1x16x1 ![] bcast_S_S1x16x1 p) a b) : (⟨S_, .i1⟩ : BufTy).Contents (Elt F) → (⟨S1x16x1, .f32⟩ : BufTy).Contents (Elt F) → (⟨S1x16x1, .f32⟩ : BufTy).Contents (Elt F) → (⟨S1x16x1, .f32⟩ : BufTy).Contents (Elt F)),
    unary main_v5 main_v7 (broadcastInDim S16384x16x512 ![0, 1, 2] bcast_S1x16x1_S16384x16x512_0_1_2 : (⟨S1x16x1, .f32⟩ : BufTy).Contents (Elt F) → (⟨S16384x16x512, .f32⟩ : BufTy).Contents (Elt F)),
    binary main_v1 main_v7 main_v8 (subf : (⟨S16384x16x512, .f32⟩ : BufTy).Contents (Elt F) → (⟨S16384x16x512, .f32⟩ : BufTy).Contents (Elt F) → (⟨S16384x16x512, .f32⟩ : BufTy).Contents (Elt F)),
    nullary main_cst_1 (constant S_ .f32 0x3727C5AC#32),
    unary main_cst_1 main_v9 (broadcastInDim S1x16x1 ![] bcast_S_S1x16x1 : (⟨S_, .f32⟩ : BufTy).Contents (Elt F) → (⟨S1x16x1, .f32⟩ : BufTy).Contents (Elt F)),
    binary main_v6 main_v9 main_v10 (addf : (⟨S1x16x1, .f32⟩ : BufTy).Contents (Elt F) → (⟨S1x16x1, .f32⟩ : BufTy).Contents (Elt F) → (⟨S1x16x1, .f32⟩ : BufTy).Contents (Elt F)),
    unary main_v10 main_v11 (Host.sqrt : (⟨S1x16x1, .f32⟩ : BufTy).Contents (Elt F) → (⟨S1x16x1, .f32⟩ : BufTy).Contents (Elt F)),
    unary main_v11 main_v12 (broadcastInDim S16384x16x512 ![0, 1, 2] bcast_S1x16x1_S16384x16x512_0_1_2 : (⟨S1x16x1, .f32⟩ : BufTy).Contents (Elt F) → (⟨S16384x16x512, .f32⟩ : BufTy).Contents (Elt F)),
    binary main_v8 main_v12 main_v13 (Host.divf : (⟨S16384x16x512, .f32⟩ : BufTy).Contents (Elt F) → (⟨S16384x16x512, .f32⟩ : BufTy).Contents (Elt F) → (⟨S16384x16x512, .f32⟩ : BufTy).Contents (Elt F)),
    unary main_arg2 main_v14 (broadcastInDim S1x16x1 ![1] bcast_S16_S1x16x1_1 : (⟨S16, .f32⟩ : BufTy).Contents (Elt F) → (⟨S1x16x1, .f32⟩ : BufTy).Contents (Elt F)),
    unary main_v14 main_v15 (broadcastInDim S16384x16x512 ![0, 1, 2] bcast_S1x16x1_S16384x16x512_0_1_2 : (⟨S1x16x1, .f32⟩ : BufTy).Contents (Elt F) → (⟨S16384x16x512, .f32⟩ : BufTy).Contents (Elt F)),
    binary main_v13 main_v15 main_v16 (mulf : (⟨S16384x16x512, .f32⟩ : BufTy).Contents (Elt F) → (⟨S16384x16x512, .f32⟩ : BufTy).Contents (Elt F) → (⟨S16384x16x512, .f32⟩ : BufTy).Contents (Elt F)),
    unary main_arg3 main_v17 (broadcastInDim S1x16x1 ![1] bcast_S16_S1x16x1_1 : (⟨S16, .f32⟩ : BufTy).Contents (Elt F) → (⟨S1x16x1, .f32⟩ : BufTy).Contents (Elt F)),
    unary main_v17 main_v18 (broadcastInDim S16384x16x512 ![0, 1, 2] bcast_S1x16x1_S16384x16x512_0_1_2 : (⟨S1x16x1, .f32⟩ : BufTy).Contents (Elt F) → (⟨S16384x16x512, .f32⟩ : BufTy).Contents (Elt F)),
    binary main_v16 main_v18 main_v19 (addf : (⟨S16384x16x512, .f32⟩ : BufTy).Contents (Elt F) → (⟨S16384x16x512, .f32⟩ : BufTy).Contents (Elt F) → (⟨S16384x16x512, .f32⟩ : BufTy).Contents (Elt F)),
    nullary main_cst_2 (constant S_ .f32 0xFF800000#32),
    binary main_v19 main_cst_2 main_v20 ((fun x v => Host.reduce FloatOps.maximumf x v reducesTo_S16384x16x512_S16384x16_d2 h_S_) : (⟨S16384x16x512, .f32⟩ : BufTy).Contents (Elt F) → (⟨S_, .f32⟩ : BufTy).Contents (Elt F) → (⟨S16384x16, .f32⟩ : BufTy).Contents (Elt F)),
    nullary main_call1_v0 (iotaInDim S16384x16x512 32 2),
    nullary main_call1_cst (constant S_ .f32 0xFF800000#32),
    nullary main_call1_c (constantI S_ 32 0#32),
    quaternary main_v19 main_call1_v0 main_call1_cst main_call1_c main_call1_v1_0 ((fun x y u v j => (Host.argReduce reducer_argmax_f32_i32 x y u v reducesTo_S16384x16x512_S16384x16_d2 h_S_ j).1) : (⟨S16384x16x512, .f32⟩ : BufTy).Contents (Elt F) → (⟨S16384x16x512, .i32⟩ : BufTy).Contents (Elt F) → (⟨S_, .f32⟩ : BufTy).Contents (Elt F) → (⟨S_, .i32⟩ : BufTy).Contents (Elt F) → (⟨S16384x16, .f32⟩ : BufTy).Contents (Elt F)),
    quaternary main_v19 main_call1_v0 main_call1_cst main_call1_c main_v21 ((fun x y u v j => (Host.argReduce reducer_argmax_f32_i32 x y u v reducesTo_S16384x16x512_S16384x16_d2 h_S_ j).2) : (⟨S16384x16x512, .f32⟩ : BufTy).Contents (Elt F) → (⟨S16384x16x512, .i32⟩ : BufTy).Contents (Elt F) → (⟨S_, .f32⟩ : BufTy).Contents (Elt F) → (⟨S_, .i32⟩ : BufTy).Contents (Elt F) → (⟨S16384x16, .i32⟩ : BufTy).Contents (Elt F)) ]

/-- The program is the sequence of these operations. -/
theorem main_eq (c : Dev nD) : main (F := F) c = seq ops := by chain_rfl

/-- No buffer of the reference is scoped. -/
theorem scopedRefs_eq : (Finset.univ.filter fun b : Ref sig .tc => b.isScoped) = ∅ := by decide

/-- The reference has no semaphore. -/
theorem scopedSems_eq : (Finset.univ.filter fun sm : SemLoc sig => sm.isScoped .tc) = ∅ := by decide

/-- Every operation touches the machine's own buffers only. -/
theorem ops_sub : (ops : List (HloOp τ sig (Elt F))).Forall fun op => op.bufs ⊆ tcRefs τ sig :=
  ⟨binary_bufs_sub .., unary_bufs_sub .., nullary_bufs_sub .., binary_bufs_sub .., unary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., nullary_bufs_sub .., binary_bufs_sub .., nullary_bufs_sub .., nullary_bufs_sub .., nullary_bufs_sub .., quaternary_bufs_sub .., quaternary_bufs_sub ..⟩

/-- The responses `r[b, c, k]`: the product of input row `b` of channel `c` with centroid `k` of the channel. -/
def resp (x : Vec F S16384x16x32 .f32) (w : Vec F S16x512x32 .f32) : Vec F S16384x16x512 .f32 :=
  transpose S16384x16x512 [2, 0, 1] (Host.dotGeneral dot_S16x512x32_S16384x16x32_S16x512x16384_2_2_1_0_0_1 none w x)
    transposes_S16x512x16384_S16384x16x512_2_0_1

/-- The mean of an array over rows and centroids, one per channel. -/
def mean (r : Vec F S16384x16x512 .f32) : Vec F S1x16x1 .f32 :=
  Host.divf (broadcastInDim S1x16x1 ![1] bcast_S16_S1x16x1_1
      (Host.reduceAdd r (constant S_ .f32 0x00000000#32) reducesTo_S16384x16x512_S16_d0_2 h_S_))
    (broadcastInDim S1x16x1 ![] bcast_S_S1x16x1 (constant S_ .f32 0x4B000000#32))

/-- The number the variance divides by: the number of elements of a channel, less zero. -/
def count : Vec F S_ .f32 := subf (constant S_ .f32 0x4B000000#32) (sitofp .f32 (constantI S_ 32 0#32))

/-- The squares of the distances to the mean. -/
def dist2 (r : Vec F S16384x16x512 .f32) : Vec F S16384x16x512 .f32 :=
  mulf (subf r (broadcastInDim S16384x16x512 ![0, 1, 2] bcast_S1x16x1_S16384x16x512_0_1_2 (mean r)))
    (subf r (broadcastInDim S16384x16x512 ![0, 1, 2] bcast_S1x16x1_S16384x16x512_0_1_2 (mean r)))

/-- The variance over rows and centroids, one per channel. -/
def var (r : Vec F S16384x16x512 .f32) : Vec F S1x16x1 .f32 :=
  select (broadcastInDim S1x16x1 ![] bcast_S_S1x16x1 (cmpf .ogt (count (F := F)) (constant S_ .f32 0x00000000#32)))
    (Host.divf (broadcastInDim S1x16x1 ![1] bcast_S16_S1x16x1_1
        (Host.reduceAdd (dist2 r) (constant S_ .f32 0x00000000#32) reducesTo_S16384x16x512_S16_d0_2 h_S_))
      (broadcastInDim S1x16x1 ![] bcast_S_S1x16x1 (count (F := F))))
    (broadcastInDim S1x16x1 ![] bcast_S_S1x16x1 (constant S_ .f32 0x7FC00000#32))

/-- The normalised responses, scaled by the weights and moved by the biases. -/
def normed (r : Vec F S16384x16x512 .f32) (g b : Vec F S16 .f32) : Vec F S16384x16x512 .f32 :=
  addf (mulf
      (Host.divf (subf r (broadcastInDim S16384x16x512 ![0, 1, 2] bcast_S1x16x1_S16384x16x512_0_1_2 (mean r)))
        (broadcastInDim S16384x16x512 ![0, 1, 2] bcast_S1x16x1_S16384x16x512_0_1_2
          (Host.sqrt (addf (var r) (broadcastInDim S1x16x1 ![] bcast_S_S1x16x1 (constant S_ .f32 0x3727C5AC#32))))))
      (broadcastInDim S16384x16x512 ![0, 1, 2] bcast_S1x16x1_S16384x16x512_0_1_2 (broadcastInDim S1x16x1 ![1] bcast_S16_S1x16x1_1 g)))
    (broadcastInDim S16384x16x512 ![0, 1, 2] bcast_S1x16x1_S16384x16x512_0_1_2 (broadcastInDim S1x16x1 ![1] bcast_S16_S1x16x1_1 b))

/-- The largest value over the centroids. -/
def best (y : Vec F S16384x16x512 .f32) : Vec F S16384x16 .f32 :=
  Host.reduce FloatOps.maximumf y (constant S_ .f32 0xFF800000#32) reducesTo_S16384x16x512_S16384x16_d2 h_S_

/-- The number of the first centroid where the largest value is met. -/
def code (y : Vec F S16384x16x512 .f32) : Vec F S16384x16 .i32 := fun j =>
  (Host.argReduce reducer_argmax_f32_i32 y (iotaInDim S16384x16x512 32 2) (constant S_ .f32 0xFF800000#32)
    (constantI S_ 32 0#32) reducesTo_S16384x16x512_S16384x16_d2 h_S_ j).2

variable (m : (ℓ : Loc nD τ sig) → Buf (Elt F) ℓ) (ρ : Dev nD → PrngReg)

/-- The reference's normalised responses from the launch contents. -/
def out (c : Dev nD) : Vec F S16384x16x512 .f32 :=
  normed (resp (m ((c : Thread nD τ).loc main_arg0)) (m ((c : Thread nD τ).loc main_arg1)))
    (m ((c : Thread nD τ).loc main_arg2)) (m ((c : Thread nD τ).loc main_arg3))

/-- The reference runs; it ends with the codes and the largest values of the normalised responses, the arguments
    unchanged, and every semaphore counter at zero. -/
theorem run : θ_run defs (onTc (τ := τ) (main (F := F))) ⟨m, fun _ => 0, ρ⟩ (fun r => (∀ c : Dev nD,
      r.2.mem ((c.tc : Thread nD τ).loc main_v21) = code (out m c)
      ∧ r.2.mem ((c.tc : Thread nD τ).loc main_v20) = best (out m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨fun c =>
      ⟨(h c main_v21).trans (by after_results; rfl), (h c main_v20).trans (by after_results; rfl),
        (h c main_arg0).trans (by after_results), (h c main_arg1).trans (by after_results),
        (h c main_arg2).trans (by after_results), (h c main_arg3).trans (by after_results)⟩,
      Idealize.ShloMosaic.sem_eq_zero_of_no_sems (by decide) r.2⟩)
    (run_seq scopedRefs_eq scopedSems_eq defs main (fun _ => ops) main_eq (fun _ => ops_sub) m ρ)

end Cert.ReferenceIdeal.Whole

end
-- ==== Proof.KernelRun.lean ====
/-
  The whole run of the kernel: after it, the two computed results hold the transposed output arrays of the two
  regions, and everything the regions read is named: what each array held when its region was entered.
-/
module

public import proofs.«01_k».proof.Proof.Gen.KernelIdeal.Frame

@[expose] public section

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The array of codes as the first region leaves it: one row per channel, one column per example. -/
abbrev codesArr (c : Dev nD) : IVec S16x16384 32 := (dat0 (V1 m ρ) c).arrAt 2 cfg0.N
/-- The array of normalised best responses as the second region leaves it. -/
abbrev mseArr (c : Dev nD) : FVec F S16x16384 .f32 := (dat1 (V3 m ρ) c).arrAt 7 cfg1.N

/-- The first result ends as the transposed array of codes. -/
theorem W5_v8 (c : Dev nD) : W5 m ρ c (Proc.devRef .tc main_v8)
    = transpose S16384x16 [1, 0] (codesArr m ρ c) transposes_S16x16384_S16384x16_1_0 := by
  have h : W4 m ρ c (Proc.devRef .tc main_v3_0) = codesArr m ρ c := by
    rw [W4_of_ne m ρ c main_v3_0 (by decide), W3_of m ρ c main_v3_0 (by decide)]
    exact W2_arr m ρ c 2
  rw [← h]
  show StableHlo.after hostOps2 (W4 m ρ c) _ = _
  after_results

/-- The second result ends as the transposed array of normalised best responses. -/
theorem W5_v9 (c : Dev nD) : W5 m ρ c (Proc.devRef .tc main_v9)
    = transpose S16384x16 [1, 0] (mseArr m ρ c) transposes_S16x16384_S16384x16_1_0 := by
  have h : W4 m ρ c (Proc.devRef .tc main_v7) = mseArr m ρ c := W4_arr m ρ c 7
  rw [← h]
  show StableHlo.after hostOps2 (W4 m ρ c) _ = _
  after_results

/-- The first region reads the examples transposed, with channel and feature as one axis. -/
theorem V1_v1 (c : Dev nD) : V1 m ρ c main_v1 = shapeCast S512x16384 (transpose S16x32x16384 [1, 2, 0]
    (m ((c : Thread nD τ).loc main_arg0) : FVec F S16384x16x32 .f32) transposes_S16384x16x32_S16x32x16384_1_2_0) shapeCasts_S16x32x16384_S512x16384 := by
  show StableHlo.after hostOps0 (W0 m ρ c) _ = _
  after_results
  rfl

/-- Both regions read the centroids with their last two axes exchanged. -/
theorem V1_v2 (c : Dev nD) : V1 m ρ c main_v2 = transpose S16x32x512 [0, 2, 1]
    (m ((c : Thread nD τ).loc main_arg1) : FVec F S16x512x32 .f32) transposes_S16x512x32_S16x32x512_0_2_1 := by
  show StableHlo.after hostOps0 (W0 m ρ c) _ = _
  after_results

/-- The second region finds the centroids as the first did. -/
theorem V3_v2 (c : Dev nD) : V3 m ρ c main_v2 = V1 m ρ c main_v2 := by
  show W3 m ρ c (Proc.devRef .tc main_v2) = _
  rw [W3_of m ρ c main_v2 (by decide), W2_of m ρ c main_v2 (by decide)]

/-- The second region finds the largest responses the first one left. -/
theorem V3_v3_1 (c : Dev nD) : V3 m ρ c main_v3_1 = (dat0 (V1 m ρ) c).arrAt 3 cfg0.N := by
  show W3 m ρ c (Proc.devRef .tc main_v3_1) = _
  rw [W3_of m ρ c main_v3_1 (by decide)]; exact W2_arr m ρ c 3

/-- The second region finds the sums of the examples the first one left. -/
theorem V3_v3_2 (c : Dev nD) : V3 m ρ c main_v3_2 = (dat0 (V1 m ρ) c).arrAt 4 cfg0.N := by
  show W3 m ρ c (Proc.devRef .tc main_v3_2) = _
  rw [W3_of m ρ c main_v3_2 (by decide)]; exact W2_arr m ρ c 4

/-- The second region finds the sums of products of the examples the first one left. -/
theorem V3_v3_3 (c : Dev nD) : V3 m ρ c main_v3_3 = (dat0 (V1 m ρ) c).arrAt 5 cfg0.N := by
  show W3 m ρ c (Proc.devRef .tc main_v3_3) = _
  rw [W3_of m ρ c main_v3_3 (by decide)]; exact W2_arr m ρ c 5

/-- The second region finds the number of responses per channel. -/
theorem V3_v4 (c : Dev nD) : V3 m ρ c main_v4 = (broadcastInDim S1x1 ![] bcast_S_S1x1 (constant S_ .f32 0x4B000000#32) : FVec F S1x1 .f32) := by
  show StableHlo.after hostOps1 (W2 m ρ c) _ = _
  after_results

/-- The second region finds the weights as one column. -/
theorem V3_v5 (c : Dev nD) : V3 m ρ c main_v5 = shapeCast S16x1 (m ((c : Thread nD τ).loc main_arg2) : FVec F S16 .f32) shapeCasts_S16_S16x1 := by
  have h : W2 m ρ c (Proc.devRef .tc main_arg2) = m ((c : Thread nD τ).loc main_arg2) := W2_args m ρ c main_arg2 (by decide)
  rw [← h]
  show StableHlo.after hostOps1 (W2 m ρ c) _ = _
  after_results
  rfl

/-- The second region finds the offsets as one column. -/
theorem V3_v6 (c : Dev nD) : V3 m ρ c main_v6 = shapeCast S16x1 (m ((c : Thread nD τ).loc main_arg3) : FVec F S16 .f32) shapeCasts_S16_S16x1 := by
  have h : W2 m ρ c (Proc.devRef .tc main_arg3) = m ((c : Thread nD τ).loc main_arg3) := W2_args m ρ c main_arg3 (by decide)
  rw [← h]
  show StableHlo.after hostOps1 (W2 m ρ c) _ = _
  after_results
  rfl

-- the launch's implicit arguments are found by unifying its conclusion with this one
set_option backward.isDefEq.respectTransparency.types false in
/-- The kernel terminates from any memory with zero counters; its two computed results are then the transposed output
    arrays of its regions, its arguments are as they were, and every counter is at zero. -/
theorem run : θ_run defs (onTc (τ := τ) (main (F := F))) ⟨m, fun _ => 0, ρ⟩ (fun r => (∀ c : Dev nD,
      r.2.mem ((c.tc : Thread nD τ).loc main_v8) = transpose S16384x16 [1, 0] (codesArr m ρ c) transposes_S16x16384_S16384x16_1_0
      ∧ r.2.mem ((c.tc : Thread nD τ).loc main_v9) = transpose S16384x16 [1, 0] (mseArr m ρ c) transposes_S16x16384_S16384x16_1_0
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h hz => ⟨(fun c =>
      ⟨(h c _ (mem_uc main_v8 (by decide))).trans (W5_v8 m ρ c),
       (h c _ (mem_uc main_v9 (by decide))).trans (W5_v9 m ρ c),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c)⟩), funext fun g => hz g (.inr (no_unscoped g.2))⟩)

end Cert.KernelIdeal.Whole

end
-- ==== Proof.Frames.lean ====
/-
  The frame claims: each program terminates, leaves its arguments as they were and every counter at zero.
-/
module

public import proofs.«01_k».proof.Proof.RefRun
public import proofs.«01_k».proof.Proof.KernelRun
public import proofs.«01_k».proof.Proof.Gen.Kernel.Frame

@[expose] public section

noncomputable section

namespace Cert.Proof

open Idealize.ShloMosaic Idealize.SL.Sem

/-- The kernel, at the machine's own number format, runs and leaves its arguments alone. -/
theorem frameKernel : @Cert.quiescent_Kernel Cert.Kernel.Gen.facts :=
  fun m ρ _ => Cert.Kernel.Gen.frame m ρ

/-- The kernel over exact numbers runs and leaves its arguments alone. -/
theorem frameKernelIdeal : @Cert.quiescent_KernelIdeal Cert.KernelIdeal.Gen.facts :=
  fun m ρ _ => Cert.KernelIdeal.Gen.frame m ρ

/-- The reference over exact numbers runs and leaves its arguments alone. -/
theorem frameReferenceIdeal : @Cert.quiescent_ReferenceIdeal Cert.ReferenceIdeal.Gen.facts :=
  fun m ρ _ => (θ_run Cert.ReferenceIdeal.defs _ _).mono (fun _ h => ⟨fun c => (h.1 c).2.2, h.2⟩)
    (Cert.ReferenceIdeal.Whole.run m ρ)

end Cert.Proof

end
-- ==== Proof.Channel.lean ====
/-
  What the first region's block computes for one channel, whatever the channel: the channel's responses from a block of
  examples and the channel's weights, the largest response of each example, and the position of the first largest one
  as the kernel finds it, chunk by chunk.
-/
module

public import proofs.«01_k».proof.Proof.Gen.KernelIdeal.Frame
public import Idealize.ShloMosaic.Lib.ValueIdx
public import Idealize.ShloMosaic.Lib.IdealHost
public import Idealize.ShloMosaic.PureOps.Ideal.Laws
public import Idealize.ShloMosaic.Lib.Pipeline.ValueKit.Tiles

@[expose] public section

set_option maxRecDepth 16384

noncomputable section

namespace Cert.KernelIdeal.Channel

open Idealize.ShloMosaic Idealize.ShloMosaic.ValueIdx
open Cert.KernelIdeal Cert.KernelIdeal.Gen
open scoped BigOperators

/-- One channel's responses: the 32 features of the channel are rows `o …` of the group's block of examples. -/
def resp (o : ℕ) (h : S128x2048.Slices ![o, 0] S32x2048) (x : FVec Ideal S128x2048 .f32) (w : FVec Ideal S1x32x512 .f32) :
    FVec Ideal S512x2048 .f32 :=
  matmul dot_S32x512_S32x2048_S512x2048_0_0_1_1_n_n none (shapeCast S32x512 w shapeCasts_S1x32x512_S32x512)
    (extractStridedSlice S32x2048 ![o, 0] (shapeCast S128x2048 x shapeCasts_S128x2048_S128x2048) h)
    (constant S512x2048 .f32 0x00000000#32)

/-- Rows 0 to 127 of the responses. -/
def part0 (r : FVec Ideal S512x2048 .f32) : FVec Ideal S128x2048 .f32 :=
  extractStridedSlice S128x2048 ![0, 0] r slices_S512x2048_o0_0_S128x2048
/-- Rows 128 to 255 of the responses. -/
def part1 (r : FVec Ideal S512x2048 .f32) : FVec Ideal S128x2048 .f32 :=
  extractStridedSlice S128x2048 ![128, 0] r slices_S512x2048_o128_0_S128x2048
/-- Rows 256 to 383 of the responses. -/
def part2 (r : FVec Ideal S512x2048 .f32) : FVec Ideal S128x2048 .f32 :=
  extractStridedSlice S128x2048 ![256, 0] r slices_S512x2048_o256_0_S128x2048
/-- Rows 384 to 511 of the responses. -/
def part3 (r : FVec Ideal S512x2048 .f32) : FVec Ideal S128x2048 .f32 :=
  extractStridedSlice S128x2048 ![384, 0] r slices_S512x2048_o384_0_S128x2048

/-- The largest of the four responses that share a position within their parts. -/
def top (r : FVec Ideal S512x2048 .f32) : FVec Ideal S128x2048 .f32 :=
  maximumf (maximumf (maximumf (part0 r) (part1 r)) (part2 r)) (part3 r)

/-- The first part holding that largest response, as a float. -/
def which (r : FVec Ideal S512x2048 .f32) : FVec Ideal S128x2048 .f32 :=
  select (cmpf .oeq (part0 r) (top r)) (broadcast S128x2048 (Scalar.ofBits .f32 0x00000000#32))
    (select (cmpf .oeq (part1 r) (top r)) (broadcast S128x2048 (Scalar.ofBits .f32 0x3F800000#32))
      (select (cmpf .oeq (part2 r) (top r)) (broadcast S128x2048 (Scalar.ofBits .f32 0x40000000#32))
        (broadcast S128x2048 (Scalar.ofBits .f32 0x40400000#32))))

/-- The largest response of each example. -/
def maxRow (r : FVec Ideal S512x2048 .f32) : FVec Ideal S1x2048 .f32 :=
  shapeCast S1x2048 (multiReduction .maximumf [0] S2048 (top r) 0xFF800000#32 reduces_S128x2048_S2048 (.inl rfl) rfl)
    shapeCasts_S2048_S1x2048

/-- The candidate position at each place within the parts: the position of the first part's response there when it is
    the largest of all, and 512 when it is not. -/
def cand (r : FVec Ideal S512x2048 .f32) : FVec Ideal S128x2048 .f32 :=
  select (cmpf .oeq (top r) (broadcastTo S128x2048 (maxRow r) broadcasts_S1x2048_S128x2048))
    (addf (mulf (which r) (broadcast S128x2048 (Scalar.ofBits .f32 0x43000000#32))) k0_pay4)
    (broadcast S128x2048 (Scalar.ofBits .f32 0x44000000#32))

/-- The smallest candidate of each example. -/
def idxRow (r : FVec Ideal S512x2048 .f32) : FVec Ideal S1x2048 .f32 :=
  shapeCast S1x2048 (multiReduction .minimumf [0] S2048 (cand r) 0x7F800000#32 reduces_S128x2048_S2048 (.inl rfl) rfl)
    shapeCasts_S2048_S1x2048

end Cert.KernelIdeal.Channel

end
-- ==== Proof.Rows.lean ====
/-
  The sixteen rows that one block of the first region writes, of codes and of largest responses: at every point the
  stacked rows of the sixteen channels.
-/
module

public import proofs.«01_k».proof.Proof.Channel

@[expose] public section

set_option maxRecDepth 16384

noncomputable section

namespace Cert.KernelIdeal.Channel

open Idealize.ShloMosaic Idealize.ShloMosaic.TcCoe Idealize.ShloMosaic.Tactic Idealize.ShloMosaic.ValueIdx
open Idealize.SL Idealize.SL.RA Idealize.SL.BI
open Idealize.ShloMosaic.Pipeline (Dat Cfg Window BodyObligation cellOf)
open Cert.KernelIdeal Cert.KernelIdeal.Gen

section
variable (x0 : FVec Ideal S512x2048 .f32) (x1 : FVec Ideal S16x32x512 .f32)

/-- The responses of channel 0 in a block. -/
def resp0 : FVec Ideal S512x2048 .f32 :=
  resp 0 slices_S128x2048_o0_0_S32x2048 (View.ld (Val := Elt Ideal) (e' := .f32) x0 (Rect.unit ![0, 0] S128x2048.size inb_S512x2048_S128x2048_0_0)) (View.ld (Val := Elt Ideal) (e' := .f32) x1 (Rect.unit ![0, 0, 0] S1x32x512.size inb_S16x32x512_S1x32x512_0_0_0))
/-- The responses of channel 1 in a block. -/
def resp1 : FVec Ideal S512x2048 .f32 :=
  resp 32 slices_S128x2048_o32_0_S32x2048 (View.ld (Val := Elt Ideal) (e' := .f32) x0 (Rect.unit ![0, 0] S128x2048.size inb_S512x2048_S128x2048_0_0)) (View.ld (Val := Elt Ideal) (e' := .f32) x1 (Rect.unit ![1, 0, 0] S1x32x512.size inb_S16x32x512_S1x32x512_1_0_0))
/-- The responses of channel 2 in a block. -/
def resp2 : FVec Ideal S512x2048 .f32 :=
  resp 64 slices_S128x2048_o64_0_S32x2048 (View.ld (Val := Elt Ideal) (e' := .f32) x0 (Rect.unit ![0, 0] S128x2048.size inb_S512x2048_S128x2048_0_0)) (View.ld (Val := Elt Ideal) (e' := .f32) x1 (Rect.unit ![2, 0, 0] S1x32x512.size inb_S16x32x512_S1x32x512_2_0_0))
/-- The responses of channel 3 in a block. -/
def resp3 : FVec Ideal S512x2048 .f32 :=
  resp 96 slices_S128x2048_o96_0_S32x2048 (View.ld (Val := Elt Ideal) (e' := .f32) x0 (Rect.unit ![0, 0] S128x2048.size inb_S512x2048_S128x2048_0_0)) (View.ld (Val := Elt Ideal) (e' := .f32) x1 (Rect.unit ![3, 0, 0] S1x32x512.size inb_S16x32x512_S1x32x512_3_0_0))
/-- The responses of channel 4 in a block. -/
def resp4 : FVec Ideal S512x2048 .f32 :=
  resp 0 slices_S128x2048_o0_0_S32x2048 (View.ld (Val := Elt Ideal) (e' := .f32) x0 (Rect.unit ![128, 0] S128x2048.size inb_S512x2048_S128x2048_128_0)) (View.ld (Val := Elt Ideal) (e' := .f32) x1 (Rect.unit ![4, 0, 0] S1x32x512.size inb_S16x32x512_S1x32x512_4_0_0))
/-- The responses of channel 5 in a block. -/
def resp5 : FVec Ideal S512x2048 .f32 :=
  resp 32 slices_S128x2048_o32_0_S32x2048 (View.ld (Val := Elt Ideal) (e' := .f32) x0 (Rect.unit ![128, 0] S128x2048.size inb_S512x2048_S128x2048_128_0)) (View.ld (Val := Elt Ideal) (e' := .f32) x1 (Rect.unit ![5, 0, 0] S1x32x512.size inb_S16x32x512_S1x32x512_5_0_0))
/-- The responses of channel 6 in a block. -/
def resp6 : FVec Ideal S512x2048 .f32 :=
  resp 64 slices_S128x2048_o64_0_S32x2048 (View.ld (Val := Elt Ideal) (e' := .f32) x0 (Rect.unit ![128, 0] S128x2048.size inb_S512x2048_S128x2048_128_0)) (View.ld (Val := Elt Ideal) (e' := .f32) x1 (Rect.unit ![6, 0, 0] S1x32x512.size inb_S16x32x512_S1x32x512_6_0_0))
/-- The responses of channel 7 in a block. -/
def resp7 : FVec Ideal S512x2048 .f32 :=
  resp 96 slices_S128x2048_o96_0_S32x2048 (View.ld (Val := Elt Ideal) (e' := .f32) x0 (Rect.unit ![128, 0] S128x2048.size inb_S512x2048_S128x2048_128_0)) (View.ld (Val := Elt Ideal) (e' := .f32) x1 (Rect.unit ![7, 0, 0] S1x32x512.size inb_S16x32x512_S1x32x512_7_0_0))
/-- The responses of channel 8 in a block. -/
def resp8 : FVec Ideal S512x2048 .f32 :=
  resp 0 slices_S128x2048_o0_0_S32x2048 (View.ld (Val := Elt Ideal) (e' := .f32) x0 (Rect.unit ![256, 0] S128x2048.size inb_S512x2048_S128x2048_256_0)) (View.ld (Val := Elt Ideal) (e' := .f32) x1 (Rect.unit ![8, 0, 0] S1x32x512.size inb_S16x32x512_S1x32x512_8_0_0))
/-- The responses of channel 9 in a block. -/
def resp9 : FVec Ideal S512x2048 .f32 :=
  resp 32 slices_S128x2048_o32_0_S32x2048 (View.ld (Val := Elt Ideal) (e' := .f32) x0 (Rect.unit ![256, 0] S128x2048.size inb_S512x2048_S128x2048_256_0)) (View.ld (Val := Elt Ideal) (e' := .f32) x1 (Rect.unit ![9, 0, 0] S1x32x512.size inb_S16x32x512_S1x32x512_9_0_0))
/-- The responses of channel 10 in a block. -/
def resp10 : FVec Ideal S512x2048 .f32 :=
  resp 64 slices_S128x2048_o64_0_S32x2048 (View.ld (Val := Elt Ideal) (e' := .f32) x0 (Rect.unit ![256, 0] S128x2048.size inb_S512x2048_S128x2048_256_0)) (View.ld (Val := Elt Ideal) (e' := .f32) x1 (Rect.unit ![10, 0, 0] S1x32x512.size inb_S16x32x512_S1x32x512_10_0_0))
/-- The responses of channel 11 in a block. -/
def resp11 : FVec Ideal S512x2048 .f32 :=
  resp 96 slices_S128x2048_o96_0_S32x2048 (View.ld (Val := Elt Ideal) (e' := .f32) x0 (Rect.unit ![256, 0] S128x2048.size inb_S512x2048_S128x2048_256_0)) (View.ld (Val := Elt Ideal) (e' := .f32) x1 (Rect.unit ![11, 0, 0] S1x32x512.size inb_S16x32x512_S1x32x512_11_0_0))
/-- The responses of channel 12 in a block. -/
def resp12 : FVec Ideal S512x2048 .f32 :=
  resp 0 slices_S128x2048_o0_0_S32x2048 (View.ld (Val := Elt Ideal) (e' := .f32) x0 (Rect.unit ![384, 0] S128x2048.size inb_S512x2048_S128x2048_384_0)) (View.ld (Val := Elt Ideal) (e' := .f32) x1 (Rect.unit ![12, 0, 0] S1x32x512.size inb_S16x32x512_S1x32x512_12_0_0))
/-- The responses of channel 13 in a block. -/
def resp13 : FVec Ideal S512x2048 .f32 :=
  resp 32 slices_S128x2048_o32_0_S32x2048 (View.ld (Val := Elt Ideal) (e' := .f32) x0 (Rect.unit ![384, 0] S128x2048.size inb_S512x2048_S128x2048_384_0)) (View.ld (Val := Elt Ideal) (e' := .f32) x1 (Rect.unit ![13, 0, 0] S1x32x512.size inb_S16x32x512_S1x32x512_13_0_0))
/-- The responses of channel 14 in a block. -/
def resp14 : FVec Ideal S512x2048 .f32 :=
  resp 64 slices_S128x2048_o64_0_S32x2048 (View.ld (Val := Elt Ideal) (e' := .f32) x0 (Rect.unit ![384, 0] S128x2048.size inb_S512x2048_S128x2048_384_0)) (View.ld (Val := Elt Ideal) (e' := .f32) x1 (Rect.unit ![14, 0, 0] S1x32x512.size inb_S16x32x512_S1x32x512_14_0_0))
/-- The responses of channel 15 in a block. -/
def resp15 : FVec Ideal S512x2048 .f32 :=
  resp 96 slices_S128x2048_o96_0_S32x2048 (View.ld (Val := Elt Ideal) (e' := .f32) x0 (Rect.unit ![384, 0] S128x2048.size inb_S512x2048_S128x2048_384_0)) (View.ld (Val := Elt Ideal) (e' := .f32) x1 (Rect.unit ![15, 0, 0] S1x32x512.size inb_S16x32x512_S1x32x512_15_0_0))

/-- Sixteen rows of one channel each, stacked. -/
def stack (f : FVec Ideal S512x2048 .f32 → FVec Ideal S1x2048 .f32) : FVec Ideal S16x2048 .f32 :=
  k0_pay1 (f (resp0 x0 x1)) (f (resp1 x0 x1)) (f (resp2 x0 x1)) (f (resp3 x0 x1)) (f (resp4 x0 x1)) (f (resp5 x0 x1)) (f (resp6 x0 x1)) (f (resp7 x0 x1)) (f (resp8 x0 x1)) (f (resp9 x0 x1)) (f (resp10 x0 x1)) (f (resp11 x0 x1)) (f (resp12 x0 x1)) (f (resp13 x0 x1)) (f (resp14 x0 x1)) (f (resp15 x0 x1))

end

/-- Stacks of equal rows are equal. -/
theorem stack_congr {a0 b0 a1 b1 a2 b2 a3 b3 a4 b4 a5 b5 a6 b6 a7 b7 a8 b8 a9 b9 a10 b10 a11 b11 a12 b12 a13 b13 a14 b14 a15 b15 : FVec Ideal S1x2048 .f32}
    (h0 : a0 = b0) (h1 : a1 = b1) (h2 : a2 = b2) (h3 : a3 = b3) (h4 : a4 = b4) (h5 : a5 = b5) (h6 : a6 = b6) (h7 : a7 = b7) (h8 : a8 = b8) (h9 : a9 = b9) (h10 : a10 = b10) (h11 : a11 = b11) (h12 : a12 = b12) (h13 : a13 = b13) (h14 : a14 = b14) (h15 : a15 = b15) :
    k0_pay1 a0 a1 a2 a3 a4 a5 a6 a7 a8 a9 a10 a11 a12 a13 a14 a15 = k0_pay1 b0 b1 b2 b3 b4 b5 b6 b7 b8 b9 b10 b11 b12 b13 b14 b15 := by
  rw [h0, h1, h2, h3, h4, h5, h6, h7, h8, h9, h10, h11, h12, h13, h14, h15]

/-- The largest responses that a later point writes. -/
theorem out0_B_3_eq (c : Dev nD) (i : grid0.Coords) (arg1 : Memref sig .tc .vmem S512x2048 .f32) (harg1 : arg1.IsWhole)
    (arg2 : Memref sig .tc .vmem S16x32x512 .f32) (harg2 : arg2.IsWhole) (arg3 : Memref sig .tc .vmem S16x2048 .i32)
    (harg3 : arg3.IsWhole) (arg4 : Memref sig .tc .vmem S16x2048 .f32) (harg4 : arg4.IsWhole)
    (arg5 : Memref sig .tc .vmem S512x1 .f32) (harg5 : arg5.IsWhole) (arg6 : Memref sig .tc .vmem S4x128x128 .f32)
    (harg6 : arg6.IsWhole) (hc0 : ¬cond0_0 i)
    (x0 : FVec Ideal S512x2048 .f32) (x1 : FVec Ideal S16x32x512 .f32) (xo4 : FVec Ideal S512x1 .f32) (xo5 : FVec Ideal S4x128x128 .f32) :
    out0_B_3 (F := Ideal) c i arg1 harg1 arg2 harg2 arg3 harg3 arg4 harg4 arg5 harg5 arg6 harg6 hc0 x0 x1 xo4 xo5 = stack x0 x1 maxRow := by
  unfold out0_B_3
  rw [View.read_writes_eq_canon _ _ _ (cover0_B_3 (F := Ideal) c i arg1 harg1 arg2 harg2 arg3 harg3 arg4 harg4 arg5 harg5 arg6 harg6 hc0 x0 x1 xo4 xo5)]
  unfold kernelRun0_B; dsimp only
  refine (View.canon_unit_zero (S := S16x2048) (off := ![0, 0]) (by decide) _ _).trans ?_
  sl_unfold_words
  simp only [View.readAt_eq_ld, harg1.read_unread, harg2.read_unread]
  exact stack_congr rfl rfl rfl rfl rfl rfl rfl rfl rfl rfl rfl rfl rfl rfl rfl rfl

/-- The codes that a later point writes. -/
theorem out0_B_2_eq (c : Dev nD) (i : grid0.Coords) (arg1 : Memref sig .tc .vmem S512x2048 .f32) (harg1 : arg1.IsWhole)
    (arg2 : Memref sig .tc .vmem S16x32x512 .f32) (harg2 : arg2.IsWhole) (arg3 : Memref sig .tc .vmem S16x2048 .i32)
    (harg3 : arg3.IsWhole) (arg4 : Memref sig .tc .vmem S16x2048 .f32) (harg4 : arg4.IsWhole)
    (arg5 : Memref sig .tc .vmem S512x1 .f32) (harg5 : arg5.IsWhole) (arg6 : Memref sig .tc .vmem S4x128x128 .f32)
    (harg6 : arg6.IsWhole) (hc0 : ¬cond0_0 i)
    (x0 : FVec Ideal S512x2048 .f32) (x1 : FVec Ideal S16x32x512 .f32) (xo4 : FVec Ideal S512x1 .f32) (xo5 : FVec Ideal S4x128x128 .f32) :
    out0_B_2 (F := Ideal) c i arg1 harg1 arg2 harg2 arg3 harg3 arg4 harg4 arg5 harg5 arg6 harg6 hc0 x0 x1 xo4 xo5 = fptosi 32 (stack x0 x1 idxRow) := by
  unfold out0_B_2
  rw [View.read_writes_eq_canon _ _ _ (cover0_B_2 (F := Ideal) c i arg1 harg1 arg2 harg2 arg3 harg3 arg4 harg4 arg5 harg5 arg6 harg6 hc0 x0 x1 xo4 xo5)]
  unfold kernelRun0_B; dsimp only
  refine (View.canon_unit_zero (S := S16x2048) (off := ![0, 0]) (by decide) _ _).trans ?_
  sl_unfold_words
  simp only [View.readAt_eq_ld, harg1.read_unread, harg2.read_unread]
  unfold k0_pay141; dsimp only; refine congrArg (fptosi 32) ?_
  exact stack_congr rfl rfl rfl rfl rfl rfl rfl rfl rfl rfl rfl rfl rfl rfl rfl rfl

/-- The largest responses that a first point writes. -/
theorem out0_A_3_eq (c : Dev nD) (i : grid0.Coords) (arg1 : Memref sig .tc .vmem S512x2048 .f32) (harg1 : arg1.IsWhole)
    (arg2 : Memref sig .tc .vmem S16x32x512 .f32) (harg2 : arg2.IsWhole) (arg3 : Memref sig .tc .vmem S16x2048 .i32)
    (harg3 : arg3.IsWhole) (arg4 : Memref sig .tc .vmem S16x2048 .f32) (harg4 : arg4.IsWhole)
    (arg5 : Memref sig .tc .vmem S512x1 .f32) (harg5 : arg5.IsWhole) (arg6 : Memref sig .tc .vmem S4x128x128 .f32)
    (harg6 : arg6.IsWhole) (hc0 : cond0_0 i)
    (x0 : FVec Ideal S512x2048 .f32) (x1 : FVec Ideal S16x32x512 .f32) :
    out0_A_3 (F := Ideal) c i arg1 harg1 arg2 harg2 arg3 harg3 arg4 harg4 arg5 harg5 arg6 harg6 hc0 x0 x1 = stack x0 x1 maxRow := by
  unfold out0_A_3
  rw [View.read_writes_eq_canon _ _ _ (cover0_A_3 (F := Ideal) c i arg1 harg1 arg2 harg2 arg3 harg3 arg4 harg4 arg5 harg5 arg6 harg6 hc0 x0 x1)]
  unfold kernelRun0_A; dsimp only
  refine (View.canon_unit_zero (S := S16x2048) (off := ![0, 0]) (by decide) _ _).trans ?_
  sl_unfold_words
  simp only [View.readAt_eq_ld, harg1.read_unread, harg2.read_unread]
  exact stack_congr rfl rfl rfl rfl rfl rfl rfl rfl rfl rfl rfl rfl rfl rfl rfl rfl

/-- The codes that a first point writes. -/
theorem out0_A_2_eq (c : Dev nD) (i : grid0.Coords) (arg1 : Memref sig .tc .vmem S512x2048 .f32) (harg1 : arg1.IsWhole)
    (arg2 : Memref sig .tc .vmem S16x32x512 .f32) (harg2 : arg2.IsWhole) (arg3 : Memref sig .tc .vmem S16x2048 .i32)
    (harg3 : arg3.IsWhole) (arg4 : Memref sig .tc .vmem S16x2048 .f32) (harg4 : arg4.IsWhole)
    (arg5 : Memref sig .tc .vmem S512x1 .f32) (harg5 : arg5.IsWhole) (arg6 : Memref sig .tc .vmem S4x128x128 .f32)
    (harg6 : arg6.IsWhole) (hc0 : cond0_0 i)
    (x0 : FVec Ideal S512x2048 .f32) (x1 : FVec Ideal S16x32x512 .f32) :
    out0_A_2 (F := Ideal) c i arg1 harg1 arg2 harg2 arg3 harg3 arg4 harg4 arg5 harg5 arg6 harg6 hc0 x0 x1 = fptosi 32 (stack x0 x1 idxRow) := by
  unfold out0_A_2
  rw [View.read_writes_eq_canon _ _ _ (cover0_A_2 (F := Ideal) c i arg1 harg1 arg2 harg2 arg3 harg3 arg4 harg4 arg5 harg5 arg6 harg6 hc0 x0 x1)]
  unfold kernelRun0_A; dsimp only
  refine (View.canon_unit_zero (S := S16x2048) (off := ![0, 0]) (by decide) _ _).trans ?_
  sl_unfold_words
  simp only [View.readAt_eq_ld, harg1.read_unread, harg2.read_unread]
  unfold k0_pay141; dsimp only; refine congrArg (fptosi 32) ?_
  exact stack_congr rfl rfl rfl rfl rfl rfl rfl rfl rfl rfl rfl rfl rfl rfl rfl rfl

end Cert.KernelIdeal.Channel

end
-- ==== Proof.Argmax.lean ====
/-
  Proof/Argmax.lean — the position of the first largest of 512 values, and the two rows the kernel takes of one channel's
  responses: the largest response of each example, and the position of the first centroid that has it.
-/
module

public import proofs.«01_k».proof.Proof.Channel
public import Idealize.ShloMosaic.Lib.ValueIdx
public import Idealize.ShloMosaic.Lib.IdealHost
public import Idealize.ShloMosaic.PureOps.Ideal.Laws

@[expose] public section

noncomputable section

namespace Cert.KernelIdeal.Channel

open Idealize.ShloMosaic Idealize.ShloMosaic.ValueIdx
open Cert.KernelIdeal Cert.KernelIdeal.Gen
open scoped BigOperators

/-- Position `k` holds the largest of the values, and no earlier position does. -/
def First (f : Fin 512 → EReal) (k : Fin 512) : Prop := (∀ j, f j ≤ f k) ∧ ∀ j, j < k → f j < f k

/-- There is a first largest position. -/
theorem exists_first (f : Fin 512 → EReal) : ∃ k, First f k := by
  classical
  obtain ⟨m, -, hm⟩ := Finset.exists_max_image (Finset.univ : Finset (Fin 512)) f ⟨0, Finset.mem_univ _⟩
  have hne : (Finset.univ.filter fun k => f k = f m).Nonempty := ⟨m, by simp⟩
  refine ⟨(Finset.univ.filter fun k => f k = f m).min' hne, ?_⟩
  have hk := Finset.min'_mem _ hne
  rw [Finset.mem_filter] at hk
  refine ⟨fun j => ?_, fun j hj => ?_⟩
  · rw [hk.2]; exact hm j (Finset.mem_univ _)
  · rw [hk.2]
    refine lt_of_le_of_ne (hm j (Finset.mem_univ _)) fun e => ?_
    exact absurd (Finset.min'_le _ j (by rw [Finset.mem_filter]; exact ⟨Finset.mem_univ _, e⟩)) (not_le.mpr hj)

/-- An increasing map does not move the first largest position. -/
theorem First.map {f : Fin 512 → EReal} {k : Fin 512} (h : First f k) (g : EReal → EReal)
    (hg : ∀ i j, f i < f j → g (f i) < g (f j)) : First (fun i => g (f i)) k := by
  refine ⟨fun j => ?_, fun j hj => hg _ _ (h.2 j hj)⟩
  rcases (h.1 j).lt_or_eq with e | e
  · exact (hg _ _ e).le
  · show g (f j) ≤ g (f k); rw [e]

theorem c0 : Ideal.ofBits .f32 0x00000000#32 = ((0 : ℝ) : EReal) := by
  simp [Ideal.ofBits, Ideal.ieee]
theorem c1 : Ideal.ofBits .f32 0x3F800000#32 = ((1 : ℝ) : EReal) := by
  simp [Ideal.ofBits, Ideal.ieee, -EReal.coe_mul]; norm_num
theorem c2 : Ideal.ofBits .f32 0x40000000#32 = ((2 : ℝ) : EReal) := by
  simp [Ideal.ofBits, Ideal.ieee, -EReal.coe_mul]; norm_num
theorem c3 : Ideal.ofBits .f32 0x40400000#32 = ((3 : ℝ) : EReal) := by
  simp [Ideal.ofBits, Ideal.ieee, -EReal.coe_mul]; norm_num
theorem c128 : Ideal.ofBits .f32 0x43000000#32 = ((128 : ℝ) : EReal) := by
  simp [Ideal.ofBits, Ideal.ieee, -EReal.coe_mul]; norm_num
theorem c512 : Ideal.ofBits .f32 0x44000000#32 = ((512 : ℝ) : EReal) := by
  simp [Ideal.ofBits, Ideal.ieee, -EReal.coe_mul]; norm_num
theorem cbot : Ideal.ofBits .f32 0xFF800000#32 = ⊥ := by
  simp [Ideal.ofBits, Ideal.ieee]
theorem ctop : Ideal.ofBits .f32 0x7F800000#32 = ⊤ := by
  simp [Ideal.ofBits, Ideal.ieee]

/-- Part `q`'s place `s` is position `128 q + s`. -/
theorem position_eq (q s : ℕ) :
    ((q : ℝ) : EReal) * ((128 : ℝ) : EReal) + ((s : ℝ) : EReal) = (((128 * q + s : ℕ) : ℝ) : EReal) := by
  have h : ((128 * q + s : ℕ) : ℝ) = (q : ℝ) * 128 + (s : ℝ) := by
    rw [Nat.cast_add, Nat.cast_mul, mul_comm]; norm_num
  rw [h, EReal.coe_add, EReal.coe_mul]

/-- A position is at most 512. -/
theorem le_512 {k : ℕ} (h : k ≤ 512) : ((k : ℝ) : EReal) ≤ ((512 : ℝ) : EReal) := by
  have : (k : ℝ) ≤ ((512 : ℕ) : ℝ) := Nat.cast_le.2 h
  rw [EReal.coe_le_coe_iff]; simpa using this

/-- The fold of the maximum from the least value is `v` when no value exceeds `v` and one reaches it. -/
theorem fold_max_of {ι : Type} [Fintype ι] (g : ι → EReal) (v : EReal) (h : ∀ i, g i ≤ v) (i : ι) (hi : g i = v) :
    (Finset.univ : Finset ι).fold max (⊥ : EReal) g = v :=
  le_antisymm ((Finset.fold_max_le _).2 ⟨bot_le, fun j _ => h j⟩)
    ((Finset.le_fold_max _).2 (Or.inr ⟨i, Finset.mem_univ _, hi.ge⟩))

/-- The fold of the minimum from the greatest value is `v` when no value is below `v` and one reaches it. -/
theorem fold_min_of {ι : Type} [Fintype ι] (g : ι → EReal) (v : EReal) (h : ∀ i, v ≤ g i) (i : ι) (hi : g i = v) :
    (Finset.univ : Finset ι).fold min (⊤ : EReal) g = v :=
  le_antisymm ((Finset.fold_min_le _).2 (Or.inr ⟨i, Finset.mem_univ _, hi.le⟩))
    ((Finset.le_fold_min _).2 ⟨le_top, fun j _ => h j⟩)

section
variable (r : FVec Ideal S512x2048 .f32)

/-- Two names of one position read one value. -/
theorem same {i j : Fin 512} (b : Fin 2048) (h : i.val = j.val) : r (ix2 i b) = r (ix2 j b) := by rw [Fin.ext h]

theorem part0_apply (s : Fin 128) (b : Fin 2048) : part0 r (ix2 s b) = r (ix2 ⟨s.val, by omega⟩ b) := by
  unfold part0
  refine extractStridedSlice_apply _ _ _ _ _ fun a => ?_
  match a with
  | ⟨0, _⟩ => show s.val = 0 + s.val; omega
  | ⟨1, _⟩ => show b.val = 0 + b.val; omega
theorem part1_apply (s : Fin 128) (b : Fin 2048) : part1 r (ix2 s b) = r (ix2 ⟨128 + s.val, by omega⟩ b) := by
  unfold part1
  refine extractStridedSlice_apply _ _ _ _ _ fun a => ?_
  match a with
  | ⟨0, _⟩ => rfl
  | ⟨1, _⟩ => show b.val = 0 + b.val; omega
theorem part2_apply (s : Fin 128) (b : Fin 2048) : part2 r (ix2 s b) = r (ix2 ⟨256 + s.val, by omega⟩ b) := by
  unfold part2
  refine extractStridedSlice_apply _ _ _ _ _ fun a => ?_
  match a with
  | ⟨0, _⟩ => rfl
  | ⟨1, _⟩ => show b.val = 0 + b.val; omega
theorem part3_apply (s : Fin 128) (b : Fin 2048) : part3 r (ix2 s b) = r (ix2 ⟨384 + s.val, by omega⟩ b) := by
  unfold part3
  refine extractStridedSlice_apply _ _ _ _ _ fun a => ?_
  match a with
  | ⟨0, _⟩ => rfl
  | ⟨1, _⟩ => show b.val = 0 + b.val; omega

/-- The largest of the four values that share a position within the parts. -/
theorem top_apply (s : Fin 128) (b : Fin 2048) :
    top r (ix2 s b) = max (max (max (r (ix2 ⟨s.val, by omega⟩ b)) (r (ix2 ⟨128 + s.val, by omega⟩ b)))
      (r (ix2 ⟨256 + s.val, by omega⟩ b))) (r (ix2 ⟨384 + s.val, by omega⟩ b)) := by
  rw [← part0_apply r, ← part1_apply r, ← part2_apply r, ← part3_apply r]; rfl

/-- The reduction of a part's rows reads the element of the row it names. -/
theorem lift_rows (b : Fin 2048) (s : Fin 128) :
    (reduces_S128x2048_S2048 : S128x2048.Reduces [0] S2048).lift (ix1 b) s = ix2 s b := by
  funext a; apply Fin.ext
  match a with
  | ⟨0, _⟩ => rfl
  | ⟨1, _⟩ => rfl

/-- The largest response of example `b` is the response at its first largest position. -/
theorem maxRow_apply (z : Fin 1) (b : Fin 2048) (k : Fin 512) (h : ∀ j, r (ix2 j b) ≤ r (ix2 k b)) :
    maxRow r (ix2 z b) = r (ix2 k b) := by
  unfold maxRow
  rw [shapeCast_apply (k := ix1 b) (hk := by
    rw [Shape.rowMajor_val_one, Shape.rowMajor_val_two]; have : z.val = 0 := by omega
    show b.val = z.val * 2048 + b.val; omega)]
  have e := Ideal.multiReduction_maximumf_single (s := S128x2048) (t := S2048) (a := (0 : Fin 2)) (φ := .f32) (top r)
    0xFF800000#32 reduces_S128x2048_S2048 (.inl rfl) rfl (ix1 b)
  refine e.trans ?_
  rw [show (FloatOps.ofBits .f32 0xFF800000#32 : Ideal .f32) = ⊥ from cbot]
  refine fold_max_of _ _ (fun s => ?_) (⟨k.val % 128, Nat.mod_lt _ (by decide)⟩ : Fin 128) ?_
  · refine (congrArg (top r) (lift_rows b s)).trans_le ((top_apply r s b).trans_le ?_)
    exact max_le (max_le (max_le (h _) (h _)) (h _)) (h _)
  · refine (congrArg (top r) (lift_rows b _)).trans ?_
    rw [top_apply]
    refine le_antisymm (max_le (max_le (max_le (h _) (h _)) (h _)) (h _)) ?_
    have hk := k.isLt
    have h4 : k.val / 128 = 0 ∨ k.val / 128 = 1 ∨ k.val / 128 = 2 ∨ k.val / 128 = 3 := by omega
    rcases h4 with q | q | q | q
    · refine le_trans (le_of_eq ?_) (le_trans (le_max_left _ _) (le_trans (le_max_left _ _) (le_max_left _ _)))
      exact same r b (by show k.val = k.val % 128; omega)
    · refine le_trans (le_of_eq ?_) (le_trans (le_max_right _ _) (le_trans (le_max_left _ _) (le_max_left _ _)))
      exact same r b (by show k.val = 128 + k.val % 128; omega)
    · refine le_trans (le_of_eq ?_) (le_trans (le_max_right _ _) (le_max_left _ _))
      exact same r b (by show k.val = 256 + k.val % 128; omega)
    · refine le_trans (le_of_eq ?_) (le_max_right _ _)
      exact same r b (by show k.val = 384 + k.val % 128; omega)

/-- The place within its part, as a float. -/
theorem place_apply (s : Fin 128) (b : Fin 2048) :
    (k0_pay4 : FVec Ideal S128x2048 .f32) (ix2 s b) = ((s.val : ℝ) : EReal) := by
  show FloatOps.sitofp .f32 (iota .tc S128x2048 32 [0] iota_S128x2048_d0_w32 (ix2 s b)) = _
  rw [iota_single_apply]
  show (((BitVec.ofNat 32 s.val).toInt : ℝ) : EReal) = _
  have hs := s.isLt
  have : (BitVec.ofNat 32 s.val).toInt = (s.val : ℤ) := by
    rw [BitVec.toInt_eq_toNat_of_lt] <;> rw [BitVec.toNat_ofNat, Nat.mod_eq_of_lt (by omega)]; omega
  rw [this]; simp

/-- The first part that reaches the largest value at a place, and that it reaches it there. -/
theorem which_apply (s : Fin 128) (b : Fin 2048) : ∃ q : ℕ, ∃ hq : q < 4,
    which r (ix2 s b) = ((q : ℝ) : EReal) ∧ r (ix2 ⟨128 * q + s.val, by omega⟩ b) = top r (ix2 s b) ∧
      ∀ (p : ℕ) (hp : p < q), r (ix2 ⟨128 * p + s.val, by omega⟩ b) ≠ top r (ix2 s b) := by
  have e : which r (ix2 s b) = Scalar.select (Ideal.cmp .oeq (part0 r (ix2 s b)) (top r (ix2 s b))) (Ideal.ofBits .f32 0x00000000#32)
      (Scalar.select (Ideal.cmp .oeq (part1 r (ix2 s b)) (top r (ix2 s b))) (Ideal.ofBits .f32 0x3F800000#32)
        (Scalar.select (Ideal.cmp .oeq (part2 r (ix2 s b)) (top r (ix2 s b))) (Ideal.ofBits .f32 0x40000000#32)
          (Ideal.ofBits .f32 0x40400000#32))) := rfl
  rw [e, c0, c1, c2, c3, part0_apply, part1_apply, part2_apply]
  have ht := top_apply r s b
  have s1 : ∀ (x y : EReal) (u v : EReal), x = y → Scalar.select (Ideal.cmp .oeq x y) u v = u := by
    intro x y u v h; simp [Ideal.cmp, Scalar.select, h]
  have s0 : ∀ (x y : EReal) (u v : EReal), x ≠ y → Scalar.select (Ideal.cmp .oeq x y) u v = v := by
    intro x y u v h; simp [Ideal.cmp, Scalar.select, h]
  by_cases h0 : r (ix2 ⟨s.val, by omega⟩ b) = top r (ix2 s b)
  · refine ⟨0, by omega, by rw [s1 _ _ _ _ h0]; simp, ?_, fun p hp => absurd hp (by omega)⟩
    rw [← h0]; exact same r b (by show 128 * 0 + s.val = s.val; omega)
  rw [s0 _ _ _ _ h0]
  have n0 : r (ix2 ⟨128 * 0 + s.val, by omega⟩ b) ≠ top r (ix2 s b) := fun e => h0 (by
    rw [← e]; exact same r b (by show s.val = 128 * 0 + s.val; omega))
  by_cases h1 : r (ix2 ⟨128 + s.val, by omega⟩ b) = top r (ix2 s b)
  · refine ⟨1, by omega, by rw [s1 _ _ _ _ h1]; simp, h1, fun p hp => ?_⟩
    obtain rfl : p = 0 := by omega
    exact n0
  rw [s0 _ _ _ _ h1]
  by_cases h2 : r (ix2 ⟨256 + s.val, by omega⟩ b) = top r (ix2 s b)
  · refine ⟨2, by omega, by rw [s1 _ _ _ _ h2]; simp, h2, fun p hp => ?_⟩
    obtain rfl | rfl : p = 0 ∨ p = 1 := by omega
    · exact n0
    · exact h1
  rw [s0 _ _ _ _ h2]
  refine ⟨3, by omega, by simp, ?_, fun p hp => ?_⟩
  · show r (ix2 ⟨384 + s.val, by omega⟩ b) = _
    by_contra h3
    rcases max_choice (max (max (r (ix2 ⟨s.val, by omega⟩ b)) (r (ix2 ⟨128 + s.val, by omega⟩ b)))
      (r (ix2 ⟨256 + s.val, by omega⟩ b))) (r (ix2 ⟨384 + s.val, by omega⟩ b)) with e | e
    · rw [e] at ht
      rcases max_choice (max (r (ix2 ⟨s.val, by omega⟩ b)) (r (ix2 ⟨128 + s.val, by omega⟩ b)))
        (r (ix2 ⟨256 + s.val, by omega⟩ b)) with e | e
      · rw [e] at ht
        rcases max_choice (r (ix2 ⟨s.val, by omega⟩ b)) (r (ix2 ⟨128 + s.val, by omega⟩ b)) with e | e
        · rw [e] at ht; exact h0 ht.symm
        · rw [e] at ht; exact h1 ht.symm
      · rw [e] at ht; exact h2 ht.symm
    · rw [e] at ht; exact h3 ht.symm
  · obtain rfl | rfl | rfl : p = 0 ∨ p = 1 ∨ p = 2 := by omega
    · exact n0
    · exact h1
    · exact h2

/-- The candidate at a place: when the place reaches the largest response of the example, the earliest of its four
    positions that does; and 512 when it does not. -/
theorem cand_apply (s : Fin 128) (b : Fin 2048) (k : Fin 512) (h : First (fun j => r (ix2 j b)) k) :
    ((k.val : ℝ) : EReal) ≤ cand r (ix2 s b) ∧ (s.val = k.val % 128 → cand r (ix2 s b) = ((k.val : ℝ) : EReal)) := by
  have hM := maxRow_apply r 0 b k h.1
  have e : cand r (ix2 s b) = Scalar.select (Ideal.cmp .oeq (top r (ix2 s b)) (broadcastTo S128x2048 (maxRow r) broadcasts_S1x2048_S128x2048 (ix2 s b)))
      (which r (ix2 s b) * Ideal.ofBits .f32 0x43000000#32 + (k0_pay4 : FVec Ideal S128x2048 .f32) (ix2 s b))
      (Ideal.ofBits .f32 0x44000000#32) := rfl
  have eb : broadcastTo S128x2048 (maxRow r) broadcasts_S1x2048_S128x2048 (ix2 s b) = r (ix2 k b) := by
    rw [← hM]
    refine broadcastTo_apply _ _ _ _ fun a => ?_
    match a with
    | ⟨0, _⟩ => rfl
    | ⟨1, _⟩ => rfl
  rw [e, eb, c128, c512, place_apply]
  have s1 : ∀ (x y : EReal) (u v : EReal), x = y → Scalar.select (Ideal.cmp .oeq x y) u v = u := by
    intro x y u v h; simp [Ideal.cmp, Scalar.select, h]
  have s0 : ∀ (x y : EReal) (u v : EReal), x ≠ y → Scalar.select (Ideal.cmp .oeq x y) u v = v := by
    intro x y u v h; simp [Ideal.cmp, Scalar.select, h]
  obtain ⟨q, hq, ew, et, en⟩ := which_apply r s b
  have hk := k.isLt
  have hs := s.isLt
  have ev : ((q : ℝ) : EReal) * ((128 : ℝ) : EReal) + ((s.val : ℝ) : EReal) = (((128 * q + s.val : ℕ) : ℝ) : EReal) := by
    exact position_eq q s.val
  by_cases hT : top r (ix2 s b) = r (ix2 k b)
  · rw [s1 _ _ _ _ hT, ew, ev]
    have hle : k.val ≤ 128 * q + s.val := by
      by_contra hc
      have := h.2 ⟨128 * q + s.val, by omega⟩ (by show 128 * q + s.val < k.val; omega)
      simp only [et, hT] at this
      exact lt_irrefl _ this
    refine ⟨by exact_mod_cast hle, fun hmod => ?_⟩
    have hqk : q ≤ k.val / 128 := by
      by_contra hc
      refine en (k.val / 128) (by omega) ?_
      rw [hT]; exact same r b (by show 128 * (k.val / 128) + s.val = k.val; omega)
    have : 128 * q + s.val = k.val := by omega
    rw [this]
  · rw [s0 _ _ _ _ hT]
    refine ⟨le_512 hk.le, fun hmod => absurd ?_ hT⟩
    refine le_antisymm ?_ ?_
    · rw [← et]; exact h.1 _
    · have hk' : r (ix2 k b) = r (ix2 ⟨128 * (k.val / 128) + s.val, by omega⟩ b) := by
        exact same r b (by show k.val = 128 * (k.val / 128) + s.val; omega)
      rw [hk', top_apply]
      have h4 : k.val / 128 = 0 ∨ k.val / 128 = 1 ∨ k.val / 128 = 2 ∨ k.val / 128 = 3 := by omega
      rcases h4 with q | q | q | q
      · refine le_trans (le_of_eq ?_) (le_trans (le_max_left _ _) (le_trans (le_max_left _ _) (le_max_left _ _)))
        exact same r b (by show 128 * (k.val / 128) + s.val = s.val; omega)
      · refine le_trans (le_of_eq ?_) (le_trans (le_max_right _ _) (le_trans (le_max_left _ _) (le_max_left _ _)))
        exact same r b (by show 128 * (k.val / 128) + s.val = 128 + s.val; omega)
      · refine le_trans (le_of_eq ?_) (le_trans (le_max_right _ _) (le_max_left _ _))
        exact same r b (by show 128 * (k.val / 128) + s.val = 256 + s.val; omega)
      · refine le_trans (le_of_eq ?_) (le_max_right _ _)
        exact same r b (by show 128 * (k.val / 128) + s.val = 384 + s.val; omega)

/-- The smallest candidate of example `b` is its first largest position. -/
theorem idxRow_apply (z : Fin 1) (b : Fin 2048) (k : Fin 512) (h : First (fun j => r (ix2 j b)) k) :
    idxRow r (ix2 z b) = ((k.val : ℝ) : EReal) := by
  unfold idxRow
  rw [shapeCast_apply (k := ix1 b) (hk := by
    rw [Shape.rowMajor_val_one, Shape.rowMajor_val_two]; have : z.val = 0 := by omega
    show b.val = z.val * 2048 + b.val; omega)]
  have e := multiReduction_minimumf_eq_fold (F := Ideal) (s := S128x2048) (t := S2048) (axes := [(0 : Fin 2)]) (φ := .f32) (cand r)
    0x7F800000#32 reduces_S128x2048_S2048 (.inl rfl) rfl (ix1 b)
  refine e.trans ?_
  refine (Shape.Reduces.fold_filter_drop_single (reduces_S128x2048_S2048 : S128x2048.Reduces [0] S2048) min _ (cand r) (ix1 b)).trans ?_
  rw [show (FloatOps.ofBits .f32 0x7F800000#32 : Ideal .f32) = ⊤ from ctop]
  refine fold_min_of _ _ (fun s => ?_) (⟨k.val % 128, Nat.mod_lt _ (by decide)⟩ : Fin 128) ?_
  · exact ((cand_apply r s b k h).1).trans_eq (congrArg (cand r) (lift_rows b s)).symm
  · exact (congrArg (cand r) (lift_rows b _)).trans ((cand_apply r _ b k h).2 rfl)

/-- A position below 512 read back as an integer. -/
theorem fptosi_nat (k : Fin 512) : Ideal.fptosi 32 ((k.val : ℝ) : EReal) = BitVec.ofNat 32 k.val := by
  have hk := k.isLt
  unfold Ideal.fptosi
  rw [Ideal.toIntClamped_coe, if_pos (by positivity), Int.floor_natCast]
  rw [min_eq_right (by norm_num; omega), max_eq_right (by norm_num)]
  rfl

end

end Cert.KernelIdeal.Channel

end
-- ==== Proof.Responses.lean ====
/-
  What a block of the first region holds at one channel, one centroid and one example: the sum over the channel's 32
  features of weight times input. And what the stacked rows hold at one channel and one example.
-/
module

public import proofs.«01_k».proof.Proof.Rows
public import proofs.«01_k».proof.Proof.Argmax

@[expose] public section

set_option maxRecDepth 16384

noncomputable section

namespace Cert.KernelIdeal.Channel

open Idealize.ShloMosaic Idealize.ShloMosaic.TcCoe Idealize.ShloMosaic.Tactic Idealize.ShloMosaic.ValueIdx
open Cert.KernelIdeal Cert.KernelIdeal.Gen
open scoped BigOperators

/-- Feature `d` of channel `c`, as a row of the block of examples. -/
def feat (c : Fin 16) (d : Fin 32) : Fin 512 := ⟨32 * c.val + d.val, by omega⟩

/-- The response of centroid `k` of channel `c` to example `b` of a block. -/
def score (x0 : FVec Ideal S512x2048 .f32) (x1 : FVec Ideal S16x32x512 .f32) (c : Fin 16) (b : Fin 2048) (k : Fin 512) : EReal :=
  ∑ d : Fin 32, x1 (ix3 c d k) * x0 (ix2 (feat c d) b)

/-- One channel's responses at an index: the sum over the channel's features. -/
theorem resp_apply (o : ℕ) (h : S128x2048.Slices ![o, 0] S32x2048) (x : FVec Ideal S128x2048 .f32)
    (w : FVec Ideal S1x32x512 .f32) (k : Fin 512) (b : Fin 2048) (ho : o + 32 ≤ 128) :
    resp o h x w (ix2 k b) = ∑ d : Fin 32, w (ix3 (0 : Fin 1) d k) * x (ix2 ⟨o + d.val, by omega⟩ b) := by
  unfold resp
  simp only [matmul]
  rw [Ideal.matmul_constant_zero_apply, ← Equiv.sum_comp (contrEquiv1 _ 32 rfl rfl).symm]
  refine Finset.sum_congr rfl fun d _ => ?_
  refine congrArg₂ (· * ·) ?_ ?_
  · refine shapeCast_apply _ _ _ (ix3 (0 : Fin 1) d k) ?_
    rw [Shape.rowMajor_val_two, Shape.rowMajor_val_three]
    show (0 * 32 + d.val) * 512 + k.val = d.val * 512 + k.val
    omega
  · rw [shapeCast_self]
    refine extractStridedSlice_apply _ _ _ _ _ fun a => ?_
    match a with
    | ⟨0, _⟩ => rfl
    | ⟨1, _⟩ => show b.val = 0 + b.val; omega

/-- The same over what is read of a block and of the weights: channel `n`'s features are rows `32 n …` of the block. -/
theorem resp_ld (o g n : ℕ) (hn : n < 16) (hg : g + o = 32 * n) (h : S128x2048.Slices ![o, 0] S32x2048)
    (h1 : ∀ a, (![g, 0] : Fin 2 → ℕ) a + S128x2048.size a ≤ S512x2048.size a)
    (h2 : ∀ a, (![n, 0, 0] : Fin 3 → ℕ) a + S1x32x512.size a ≤ S16x32x512.size a)
    (x0 : FVec Ideal S512x2048 .f32) (x1 : FVec Ideal S16x32x512 .f32) (k : Fin 512) (b : Fin 2048) :
    resp o h (View.ld (Val := Elt Ideal) (e' := .f32) x0 (Rect.unit ![g, 0] S128x2048.size h1))
        (View.ld (Val := Elt Ideal) (e' := .f32) x1 (Rect.unit ![n, 0, 0] S1x32x512.size h2)) (ix2 k b)
      = score x0 x1 ⟨n, hn⟩ b k := by
  have ho : o + 32 ≤ 128 := h.2 (0 : Fin 2)
  rw [resp_apply _ _ _ _ _ _ ho]
  refine Finset.sum_congr rfl fun d _ => congrArg₂ (· * ·) (congrArg x1 ?_) (congrArg x0 (Shape.idx_ext₂ ?_ ?_))
  · funext a; apply Fin.ext
    match a with
    | ⟨0, _⟩ => show n + 1 * 0 = n; omega
    | ⟨1, _⟩ => show 0 + 1 * d.val = d.val; omega
    | ⟨2, _⟩ => show 0 + 1 * k.val = k.val; omega
  · show g + 1 * (o + d.val) = 32 * n + d.val; omega
  · show 0 + 1 * b.val = b.val; omega

/-- The responses of each channel in a block. -/
def chan (x0 : FVec Ideal S512x2048 .f32) (x1 : FVec Ideal S16x32x512 .f32) : Fin 16 → FVec Ideal S512x2048 .f32 :=
  ![resp0 x0 x1, resp1 x0 x1, resp2 x0 x1, resp3 x0 x1, resp4 x0 x1, resp5 x0 x1, resp6 x0 x1, resp7 x0 x1, resp8 x0 x1, resp9 x0 x1, resp10 x0 x1, resp11 x0 x1, resp12 x0 x1, resp13 x0 x1, resp14 x0 x1, resp15 x0 x1]

/-- Each channel's responses at an index. -/
theorem chan_apply (x0 : FVec Ideal S512x2048 .f32) (x1 : FVec Ideal S16x32x512 .f32) (c : Fin 16) (k : Fin 512)
    (b : Fin 2048) : chan x0 x1 c (ix2 k b) = score x0 x1 c b k := by
  match c with
  | ⟨0, _⟩ => exact resp_ld 0 0 0 (by decide) rfl _ _ _ x0 x1 k b
  | ⟨1, _⟩ => exact resp_ld 32 0 1 (by decide) rfl _ _ _ x0 x1 k b
  | ⟨2, _⟩ => exact resp_ld 64 0 2 (by decide) rfl _ _ _ x0 x1 k b
  | ⟨3, _⟩ => exact resp_ld 96 0 3 (by decide) rfl _ _ _ x0 x1 k b
  | ⟨4, _⟩ => exact resp_ld 0 128 4 (by decide) rfl _ _ _ x0 x1 k b
  | ⟨5, _⟩ => exact resp_ld 32 128 5 (by decide) rfl _ _ _ x0 x1 k b
  | ⟨6, _⟩ => exact resp_ld 64 128 6 (by decide) rfl _ _ _ x0 x1 k b
  | ⟨7, _⟩ => exact resp_ld 96 128 7 (by decide) rfl _ _ _ x0 x1 k b
  | ⟨8, _⟩ => exact resp_ld 0 256 8 (by decide) rfl _ _ _ x0 x1 k b
  | ⟨9, _⟩ => exact resp_ld 32 256 9 (by decide) rfl _ _ _ x0 x1 k b
  | ⟨10, _⟩ => exact resp_ld 64 256 10 (by decide) rfl _ _ _ x0 x1 k b
  | ⟨11, _⟩ => exact resp_ld 96 256 11 (by decide) rfl _ _ _ x0 x1 k b
  | ⟨12, _⟩ => exact resp_ld 0 384 12 (by decide) rfl _ _ _ x0 x1 k b
  | ⟨13, _⟩ => exact resp_ld 32 384 13 (by decide) rfl _ _ _ x0 x1 k b
  | ⟨14, _⟩ => exact resp_ld 64 384 14 (by decide) rfl _ _ _ x0 x1 k b
  | ⟨15, _⟩ => exact resp_ld 96 384 15 (by decide) rfl _ _ _ x0 x1 k b
  | ⟨n + 16, hn⟩ => exact absurd hn (by omega)

/-- The row of a channel, named by the channel's number. -/
theorem piece (x0 : FVec Ideal S512x2048 .f32) (x1 : FVec Ideal S16x32x512 .f32)
    (f : FVec Ideal S512x2048 .f32 → FVec Ideal S1x2048 .f32) (c : Fin 16) (b : Fin 2048) (n : ℕ) (hn : n < 16)
    {r : FVec Ideal S512x2048 .f32} (hr : chan x0 x1 ⟨n, hn⟩ = r) (i : S1x2048.Idx) (h : c.val = n) (hi : (i 1).val = b.val) :
    f r i = f (chan x0 x1 c) (ix2 (0 : Fin 1) b) := by
  subst hr
  obtain rfl : c = ⟨n, hn⟩ := Fin.ext h
  refine congrArg _ (Shape.idx_ext₂ ?_ hi)
  have : (i 0).val < 1 := (i 0).isLt
  show (i 0).val = 0
  omega

/-- The stacked rows at a channel and an example. -/
theorem stack_apply (x0 : FVec Ideal S512x2048 .f32) (x1 : FVec Ideal S16x32x512 .f32)
    (f : FVec Ideal S512x2048 .f32 → FVec Ideal S1x2048 .f32) (c : Fin 16) (b : Fin 2048) :
    stack x0 x1 f (ix2 c b) = f (chan x0 x1 c) (ix2 (0 : Fin 1) b) := by
  unfold stack k0_pay1

  concat_tiles i h
  · exact piece x0 x1 f c b 0 (by decide) rfl i h h1
  · exact piece x0 x1 f c b 1 (by decide) rfl i h h1
  · exact piece x0 x1 f c b 2 (by decide) rfl i h h1
  · exact piece x0 x1 f c b 3 (by decide) rfl i h h1
  · exact piece x0 x1 f c b 4 (by decide) rfl i h h1
  · exact piece x0 x1 f c b 5 (by decide) rfl i h h1
  · exact piece x0 x1 f c b 6 (by decide) rfl i h h1
  · exact piece x0 x1 f c b 7 (by decide) rfl i h h1
  · exact piece x0 x1 f c b 8 (by decide) rfl i h h1
  · exact piece x0 x1 f c b 9 (by decide) rfl i h h1
  · exact piece x0 x1 f c b 10 (by decide) rfl i h h1
  · exact piece x0 x1 f c b 11 (by decide) rfl i h h1
  · exact piece x0 x1 f c b 12 (by decide) rfl i h h1
  · exact piece x0 x1 f c b 13 (by decide) rfl i h h1
  · exact piece x0 x1 f c b 14 (by decide) rfl i h h1
  · exact piece x0 x1 f c b 15 (by decide) rfl i h h1

/-- The largest response, and its position as an integer, that a block holds for a channel and an example. -/
theorem stack_first (x0 : FVec Ideal S512x2048 .f32) (x1 : FVec Ideal S16x32x512 .f32) (c : Fin 16) (b : Fin 2048)
    (k : Fin 512) (h : First (score x0 x1 c b) k) :
    stack x0 x1 maxRow (ix2 c b) = score x0 x1 c b k
      ∧ fptosi (F := Ideal) (φ := .f32) 32 (stack x0 x1 idxRow) (ix2 c b) = BitVec.ofNat 32 k.val := by
  have h' : First (fun j => chan x0 x1 c (ix2 j b)) k := by
    rw [show (fun j => chan x0 x1 c (ix2 j b)) = score x0 x1 c b from funext fun j => chan_apply x0 x1 c j b]; exact h
  refine ⟨?_, ?_⟩
  · rw [stack_apply, maxRow_apply _ _ _ k h'.1, chan_apply]
  · show Ideal.fptosi 32 (stack x0 x1 idxRow (ix2 c b)) = _
    rw [stack_apply, idxRow_apply _ _ _ k h', fptosi_nat]

end Cert.KernelIdeal.Channel

end
-- ==== Proof.Sums.lean ====
/-
  The two sums a block of the first region adds to: for every feature the sum of the examples, and for every pair of
  features of one group the sum of their products. A later point adds its block's sums to what it finds; the first
  point starts from zero.
-/
module

public import proofs.«01_k».proof.Proof.Channel

@[expose] public section

set_option maxRecDepth 16384

noncomputable section

namespace Cert.KernelIdeal.Channel

open Idealize.ShloMosaic Idealize.ShloMosaic.TcCoe Idealize.ShloMosaic.Tactic Idealize.ShloMosaic.ValueIdx
open Idealize.SL Idealize.SL.RA Idealize.SL.BI
open Idealize.ShloMosaic.Pipeline (Dat Cfg Window BodyObligation cellOf)
open Cert.KernelIdeal Cert.KernelIdeal.Gen
open scoped BigOperators

/-- The update of a group's sums: what was there plus the sum of the group's block along the examples. -/
theorem pay6_apply (x : FVec Ideal S128x2048 .f32) (v : FVec Ideal S128x1 .f32) (a : Fin 128) (b : Fin 1) :
    k0_pay6 x v (ix2 a b) = v (ix2 a b) + ∑ l : Fin 2048, x (ix2 a l) := by
  unfold k0_pay6 k0_pay5; dsimp only
  rw [addf_apply, shapeCast_self, shapeCast_self]
  congr 1
  refine (shapeCast_apply _ _ _ (ix1 a) ?_).trans ?_
  · rw [Shape.rowMajor_val_one, Shape.rowMajor_val_two]
    show a.val = a.val * 1 + b.val
    omega
  · have e := Ideal.multiReduction_add_single (s := S128x2048) (t := S128) (a := (1 : Fin 2)) (φ := .f32) x 0x00000000#32
      reduces_S128x2048_S128 (.inl rfl) rfl (ix1 a)
    refine e.trans ?_
    refine Finset.sum_congr rfl fun l _ => congrArg x ?_
    exact Shape.idx_ext₂ rfl rfl

/-- The update of a group's products: what was there plus the product of the group's block by itself. -/
theorem pay7_apply (x : FVec Ideal S128x2048 .f32) (v : FVec Ideal S1x128x128 .f32) (z : Fin 1) (a b : Fin 128) :
    k0_pay7 x v (ix3 z a b) = v (ix3 z a b) + ∑ l : Fin 2048, x (ix2 a l) * x (ix2 b l) := by
  unfold k0_pay7 k0_pay5; dsimp only
  refine (shapeCast_apply _ _ _ (ix2 a b) ?_).trans ?_
  · rw [Shape.rowMajor_val_two, Shape.rowMajor_val_three]
    show a.val * 128 + b.val = (z.val * 128 + a.val) * 128 + b.val
    omega
  rw [addf_apply, shapeCast_self]
  congr 1
  · refine shapeCast_apply _ _ _ _ ?_
    rw [Shape.rowMajor_val_two, Shape.rowMajor_val_three]
    show (z.val * 128 + a.val) * 128 + b.val = a.val * 128 + b.val
    omega
  · simp only [matmul]
    rw [Ideal.matmul_constant_zero_apply, ← Equiv.sum_comp (contrEquiv1 _ 2048 rfl rfl).symm]
    refine Finset.sum_congr rfl fun l _ => ?_
    congr 1 <;> refine congrArg x (Shape.idx_ext₂ ?_ ?_) <;> rfl

/-- The sum of a block of examples along a feature. -/
def rowSum (x0 : FVec Ideal S512x2048 .f32) (y : S512x1.Idx) : EReal := ∑ l : Fin 2048, x0 (ix2 (y 0) l)

/-- The sum over a block of examples of the products of two features of one group. -/
def prodSum (x0 : FVec Ideal S512x2048 .f32) (y : S4x128x128.Idx) : EReal :=
  ∑ l : Fin 2048, x0 (ix2 ⟨128 * (y 0).val + (y 1).val, by
      have h0 : (y 0).val < 4 := (y 0).isLt
      have h1 : (y 1).val < 128 := (y 1).isLt
      omega⟩ l)
    * x0 (ix2 ⟨128 * (y 0).val + (y 2).val, by
      have h0 : (y 0).val < 4 := (y 0).isLt
      have h2 : (y 2).val < 128 := (y 2).isLt
      omega⟩ l)

/-- One group's piece of the sums, at any offset. -/
theorem sum_piece (o : ℕ) (h1 : ∀ a, (![o, 0] : Fin 2 → ℕ) a + S128x2048.size a ≤ S512x2048.size a)
    (h2 : ∀ a, (![o, 0] : Fin 2 → ℕ) a + S128x1.size a ≤ S512x1.size a)
    (x0 : FVec Ideal S512x2048 .f32) (v : FVec Ideal S512x1 .f32) (x : S128x1.Idx) :
    k0_pay6 (F := Ideal) (View.ld (Val := Elt Ideal) (e' := .f32) x0 (Rect.unit ![o, 0] S128x2048.size h1))
        (View.ld (Val := Elt Ideal) (e' := .f32) v (Rect.unit ![o, 0] S128x1.size h2)) x
      = v ((Rect.unit (s := S512x1) ![o, 0] S128x1.size h2).emb x)
        + rowSum x0 ((Rect.unit (s := S512x1) ![o, 0] S128x1.size h2).emb x) := by
  obtain ⟨a, b, rfl⟩ : ∃ a b, x = ix2 a b := ⟨_, _, eq_ix2 x⟩
  rw [pay6_apply]
  refine congrArg₂ (· + ·) rfl (Finset.sum_congr rfl fun l _ => ?_)
  refine congrArg x0 (Shape.idx_ext₂ rfl ?_)
  show 0 + 1 * l.val = l.val
  omega

/-- One group's piece of the products, for any group. -/
theorem prod_piece (g : ℕ) (hg : g < 4) (h1 : ∀ a, (![128 * g, 0] : Fin 2 → ℕ) a + S128x2048.size a ≤ S512x2048.size a)
    (h2 : ∀ a, (![g, 0, 0] : Fin 3 → ℕ) a + S1x128x128.size a ≤ S4x128x128.size a)
    (x0 : FVec Ideal S512x2048 .f32) (v : FVec Ideal S4x128x128 .f32) (x : S1x128x128.Idx) :
    k0_pay7 (F := Ideal) (View.ld (Val := Elt Ideal) (e' := .f32) x0 (Rect.unit ![128 * g, 0] S128x2048.size h1))
        (View.ld (Val := Elt Ideal) (e' := .f32) v (Rect.unit ![g, 0, 0] S1x128x128.size h2)) x
      = v ((Rect.unit (s := S4x128x128) ![g, 0, 0] S1x128x128.size h2).emb x)
        + prodSum x0 ((Rect.unit (s := S4x128x128) ![g, 0, 0] S1x128x128.size h2).emb x) := by
  obtain ⟨z, a, b, rfl⟩ : ∃ z a b, x = ix3 z a b := ⟨_, _, _, eq_ix3 x⟩
  rw [pay7_apply]
  refine congrArg₂ (· + ·) rfl (Finset.sum_congr rfl fun l _ => ?_)
  refine congrArg₂ (· * ·) (congrArg x0 (Shape.idx_ext₂ ?_ ?_)) (congrArg x0 (Shape.idx_ext₂ ?_ ?_))
  · show 128 * g + 1 * a.val = 128 * (g + 1 * z.val) + (0 + 1 * a.val)
    omega
  · show 0 + 1 * l.val = l.val
    omega
  · show 128 * g + 1 * b.val = 128 * (g + 1 * z.val) + (0 + 1 * b.val)
    omega
  · show 0 + 1 * l.val = l.val
    omega

/-- The sums a later point leaves: what it found plus the sums of its block. -/
theorem out0_B_4_eq (c : Dev nD) (i : grid0.Coords) (arg1 : Memref sig .tc .vmem S512x2048 .f32) (harg1 : arg1.IsWhole)
    (arg2 : Memref sig .tc .vmem S16x32x512 .f32) (harg2 : arg2.IsWhole) (arg3 : Memref sig .tc .vmem S16x2048 .i32)
    (harg3 : arg3.IsWhole) (arg4 : Memref sig .tc .vmem S16x2048 .f32) (harg4 : arg4.IsWhole)
    (arg5 : Memref sig .tc .vmem S512x1 .f32) (harg5 : arg5.IsWhole) (arg6 : Memref sig .tc .vmem S4x128x128 .f32)
    (harg6 : arg6.IsWhole) (hc0 : ¬cond0_0 i)
    (x0 : FVec Ideal S512x2048 .f32) (x1 : FVec Ideal S16x32x512 .f32) (xo4 : FVec Ideal S512x1 .f32)
    (xo5 : FVec Ideal S4x128x128 .f32) :
    out0_B_4 (F := Ideal) c i arg1 harg1 arg2 harg2 arg3 harg3 arg4 harg4 arg5 harg5 arg6 harg6 hc0 x0 x1 xo4 xo5 = fun y => xo4 y + rowSum x0 y := by
  funext y
  unfold out0_B_4
  rw [View.read_writes_eq_canon _ _ _ (cover0_B_4 (F := Ideal) c i arg1 harg1 arg2 harg2 arg3 harg3 arg4 harg4 arg5 harg5 arg6 harg6 hc0 x0 x1 xo4 xo5)]
  refine View.canon_apply_of_pieces (fun y => xo4 y + rowSum x0 y) _ ?_ y
    (cover0_B_4 (F := Ideal) c i arg1 harg1 arg2 harg2 arg3 harg3 arg4 harg4 arg5 harg5 arg6 harg6 hc0 x0 x1 xo4 xo5 y)
  unfold kernelRun0_B; dsimp only; sl_unfold_words
  simp only [View.readAt_eq_ld, harg1.read_unread, harg5.read_unread]
  intro p hp
  simp only [List.mem_cons, List.not_mem_nil, or_false] at hp
  rcases hp with rfl | rfl | rfl | rfl
  · exact fun x => sum_piece 384 _ _ x0 xo4 x
  · exact fun x => sum_piece 256 _ _ x0 xo4 x
  · exact fun x => sum_piece 128 _ _ x0 xo4 x
  · exact fun x => sum_piece 0 _ _ x0 xo4 x

/-- The products a later point leaves: what it found plus the products of its block. -/
theorem out0_B_5_eq (c : Dev nD) (i : grid0.Coords) (arg1 : Memref sig .tc .vmem S512x2048 .f32) (harg1 : arg1.IsWhole)
    (arg2 : Memref sig .tc .vmem S16x32x512 .f32) (harg2 : arg2.IsWhole) (arg3 : Memref sig .tc .vmem S16x2048 .i32)
    (harg3 : arg3.IsWhole) (arg4 : Memref sig .tc .vmem S16x2048 .f32) (harg4 : arg4.IsWhole)
    (arg5 : Memref sig .tc .vmem S512x1 .f32) (harg5 : arg5.IsWhole) (arg6 : Memref sig .tc .vmem S4x128x128 .f32)
    (harg6 : arg6.IsWhole) (hc0 : ¬cond0_0 i)
    (x0 : FVec Ideal S512x2048 .f32) (x1 : FVec Ideal S16x32x512 .f32) (xo4 : FVec Ideal S512x1 .f32)
    (xo5 : FVec Ideal S4x128x128 .f32) :
    out0_B_5 (F := Ideal) c i arg1 harg1 arg2 harg2 arg3 harg3 arg4 harg4 arg5 harg5 arg6 harg6 hc0 x0 x1 xo4 xo5 = fun y => xo5 y + prodSum x0 y := by
  funext y
  unfold out0_B_5
  rw [View.read_writes_eq_canon _ _ _ (cover0_B_5 (F := Ideal) c i arg1 harg1 arg2 harg2 arg3 harg3 arg4 harg4 arg5 harg5 arg6 harg6 hc0 x0 x1 xo4 xo5)]
  refine View.canon_apply_of_pieces (fun y => xo5 y + prodSum x0 y) _ ?_ y
    (cover0_B_5 (F := Ideal) c i arg1 harg1 arg2 harg2 arg3 harg3 arg4 harg4 arg5 harg5 arg6 harg6 hc0 x0 x1 xo4 xo5 y)
  unfold kernelRun0_B; dsimp only; sl_unfold_words
  simp only [View.readAt_eq_ld, harg1.read_unread, harg6.read_unread]
  intro p hp
  simp only [List.mem_cons, List.not_mem_nil, or_false] at hp
  rcases hp with rfl | rfl | rfl | rfl
  · exact fun x => prod_piece 3 (by decide) _ _ x0 xo5 x
  · exact fun x => prod_piece 2 (by decide) _ _ x0 xo5 x
  · exact fun x => prod_piece 1 (by decide) _ _ x0 xo5 x
  · exact fun x => prod_piece 0 (by decide) _ _ x0 xo5 x

/-- What the stores `L` leave is zero on the rectangle `r`: they cover the buffer, and the last one under every index
    of `r` is a zero fill. -/
def Fresh {S : Shape} (r : Rect S) (L : List (View.Piece (Elt Ideal) S .f32)) : Prop :=
  (∀ y, ∃ p ∈ L, y ∈ p.1.set) ∧ ∀ y ∈ r.set, (View.canon L y : EReal) = 0

/-- One zero fill of the whole buffer leaves zero everywhere. -/
theorem Fresh.fill {S : Shape} (r : Rect S) {off : Fin S.rank → ℕ} (h : off = fun _ => 0)
    (inb : ∀ a, off a + S.size a ≤ S.size a) (w : FVec Ideal S .f32) (hw : ∀ y, w y = 0) :
    Fresh r [⟨Rect.unit off S.size inb, w⟩] :=
  ⟨fun y => ⟨_, List.mem_singleton_self _, View.mem_set_unit_zero h inb y⟩, fun y _ => by
    have e := View.canon_unit_zero (Val := Elt Ideal) (e := .f32) h inb w
    exact (congrFun e y).trans (hw y)⟩

/-- A store elsewhere leaves it zero. -/
theorem Fresh.skip {S : Shape} {r : Rect S} {L : List (View.Piece (Elt Ideal) S .f32)} (h : Fresh r L)
    (p : View.Piece (Elt Ideal) S .f32) (hp : ∀ y ∈ r.set, y ∉ p.1.set) : Fresh r (p :: L) :=
  ⟨fun y => by obtain ⟨q, hq, hy⟩ := h.1 y; exact ⟨q, List.mem_cons_of_mem _ hq, hy⟩,
   fun y hy => (View.canon_cons_of_not_mem p L (hp y hy)).trans (h.2 y hy)⟩

/-- A load of the rectangle reads zero. -/
theorem Fresh.readCov {S : Shape} {r : Rect S} {L : List (View.Piece (Elt Ideal) S .f32)} (h : Fresh r L)
    {κ : Kind} {sp : Space} (v : View sig κ sp S .f32) (x : r.shape.Idx) : (v.readCov L r.toLoadRect x : EReal) = 0 := by
  rw [View.readCov_eq_canon_ld v L r h.1]
  exact h.2 _ (r.idx_mem x)

/-- Under a store whose payload agrees with `G`, and elsewhere where what was left before it does, `G` is left. -/
theorem canon_cons_of {S : Shape} (G : S.Idx → EReal) (p : View.Piece (Elt Ideal) S .f32)
    (L : List (View.Piece (Elt Ideal) S .f32)) (y : S.Idx) (hp : ∀ x : p.1.shape.Idx, p.2 x = G (p.1.emb x))
    (hL : y ∉ p.1.set → View.canon L y = G y) : View.canon (p :: L) y = G y := by
  by_cases hm : y ∈ p.1.set
  · obtain ⟨x, rfl⟩ := p.1.exists_idx_of_mem hm
    rw [show p.1.idx x = p.1.emb x from rfl]
    exact (View.canon_cons_emb p.1 p.2 L x).trans (hp x)
  · exact (View.canon_cons_of_not_mem p L hm).trans (hL hm)

/-- Two groups' rows of the sums do not meet. -/
theorem rows_disjoint (o o' : ℕ) (ho : o' + 128 ≤ o) (h) (h') (y : S512x1.Idx)
    (hy : y ∈ (Rect.unit (s := S512x1) ![o, 0] S128x1.size h).set) :
    y ∉ (Rect.unit (s := S512x1) ![o', 0] S128x1.size h').set := by
  rw [Rect.mem_set_unit] at hy ⊢
  intro hn
  have a := (hy 0).1
  have b := (hn 0).2
  have a' : o ≤ (y 0).val := a
  have b' : (y 0).val < o' + 128 := b
  omega

/-- Two groups' blocks of the products do not meet. -/
theorem blocks_disjoint (g g' : ℕ) (hg : g' < g) (h) (h') (y : S4x128x128.Idx)
    (hy : y ∈ (Rect.unit (s := S4x128x128) ![g, 0, 0] S1x128x128.size h).set) :
    y ∉ (Rect.unit (s := S4x128x128) ![g', 0, 0] S1x128x128.size h').set := by
  rw [Rect.mem_set_unit] at hy ⊢
  intro hn
  have a' : g ≤ (y 0).val := (hy 0).1
  have b' : (y 0).val < g' + 1 := (hn 0).2
  omega

/-- The zero fill of the sums is zero. -/
theorem pay2_zero (y : S512x1.Idx) : k0_pay2 (F := Ideal) y = 0 := Ideal.ofBits_zero_f32

/-- The zero fill of the products is zero. -/
theorem pay3_zero (y : S4x128x128.Idx) : k0_pay3 (F := Ideal) y = 0 := Ideal.ofBits_zero_f32

/-- One group's piece of the sums at the first point, at any offset. -/
theorem sum_piece0 (o : ℕ) (h1 : ∀ a, (![o, 0] : Fin 2 → ℕ) a + S128x2048.size a ≤ S512x2048.size a)
    (h2 : ∀ a, (![o, 0] : Fin 2 → ℕ) a + S128x1.size a ≤ S512x1.size a)
    (x0 : FVec Ideal S512x2048 .f32) {sp : Space} (v : View sig .tc sp S512x1 .f32)
    (L : List (View.Piece (Elt Ideal) S512x1 .f32))
    (hL : Fresh (Rect.unit (s := S512x1) ![o, 0] S128x1.size h2) L) (x : S128x1.Idx) :
    k0_pay6 (F := Ideal) (View.ld (Val := Elt Ideal) (e' := .f32) x0 (Rect.unit ![o, 0] S128x2048.size h1))
        (v.readCov L (Rect.unit (s := S512x1) ![o, 0] S128x1.size h2).toLoadRect) x
      = rowSum x0 ((Rect.unit (s := S512x1) ![o, 0] S128x1.size h2).emb x) := by
  have e : v.readCov (Val := Elt Ideal) L (Rect.unit (s := S512x1) ![o, 0] S128x1.size h2).toLoadRect
      = View.ld (Val := Elt Ideal) (e' := .f32) (fun _ => (0 : EReal)) (Rect.unit (s := S512x1) ![o, 0] S128x1.size h2) :=
    funext fun z => hL.readCov v z
  rw [e]
  exact (sum_piece o h1 h2 x0 (fun _ => (0 : EReal)) x).trans (zero_add _)

/-- One group's piece of the products at the first point, for any group. -/
theorem prod_piece0 (g : ℕ) (hg : g < 4) (h1 : ∀ a, (![128 * g, 0] : Fin 2 → ℕ) a + S128x2048.size a ≤ S512x2048.size a)
    (h2 : ∀ a, (![g, 0, 0] : Fin 3 → ℕ) a + S1x128x128.size a ≤ S4x128x128.size a)
    (x0 : FVec Ideal S512x2048 .f32) {sp : Space} (v : View sig .tc sp S4x128x128 .f32)
    (L : List (View.Piece (Elt Ideal) S4x128x128 .f32))
    (hL : Fresh (Rect.unit (s := S4x128x128) ![g, 0, 0] S1x128x128.size h2) L) (x : S1x128x128.Idx) :
    k0_pay7 (F := Ideal) (View.ld (Val := Elt Ideal) (e' := .f32) x0 (Rect.unit ![128 * g, 0] S128x2048.size h1))
        (v.readCov L (Rect.unit (s := S4x128x128) ![g, 0, 0] S1x128x128.size h2).toLoadRect) x
      = prodSum x0 ((Rect.unit (s := S4x128x128) ![g, 0, 0] S1x128x128.size h2).emb x) := by
  have e : v.readCov (Val := Elt Ideal) L (Rect.unit (s := S4x128x128) ![g, 0, 0] S1x128x128.size h2).toLoadRect
      = View.ld (Val := Elt Ideal) (e' := .f32) (fun _ => (0 : EReal))
          (Rect.unit (s := S4x128x128) ![g, 0, 0] S1x128x128.size h2) :=
    funext fun z => hL.readCov v z
  rw [e]
  exact (prod_piece g hg h1 h2 x0 (fun _ => (0 : EReal)) x).trans (zero_add _)

/-- The sums the first point leaves: the sums of its block. -/
theorem out0_A_4_eq (c : Dev nD) (i : grid0.Coords) (arg1 : Memref sig .tc .vmem S512x2048 .f32) (harg1 : arg1.IsWhole)
    (arg2 : Memref sig .tc .vmem S16x32x512 .f32) (harg2 : arg2.IsWhole) (arg3 : Memref sig .tc .vmem S16x2048 .i32)
    (harg3 : arg3.IsWhole) (arg4 : Memref sig .tc .vmem S16x2048 .f32) (harg4 : arg4.IsWhole)
    (arg5 : Memref sig .tc .vmem S512x1 .f32) (harg5 : arg5.IsWhole) (arg6 : Memref sig .tc .vmem S4x128x128 .f32)
    (harg6 : arg6.IsWhole) (hc0 : cond0_0 i)
    (x0 : FVec Ideal S512x2048 .f32) (x1 : FVec Ideal S16x32x512 .f32) :
    out0_A_4 (F := Ideal) c i arg1 harg1 arg2 harg2 arg3 harg3 arg4 harg4 arg5 harg5 arg6 harg6 hc0 x0 x1 = rowSum x0 := by
  funext y
  unfold out0_A_4
  rw [View.read_writes_eq_canon _ _ _ (cover0_A_4 (F := Ideal) c i arg1 harg1 arg2 harg2 arg3 harg3 arg4 harg4 arg5 harg5 arg6 harg6 hc0 x0 x1)]
  unfold kernelRun0_A; dsimp only; sl_unfold_words
  simp only [View.readAt_eq_ld, harg1.read_unread]
  refine canon_cons_of (rowSum x0) _ _ y ?_ fun h3 => ?_
  · intro x
    refine sum_piece0 384 _ _ x0 arg5.view _ ?_ x
    refine Fresh.skip ?_ _ fun y hy => rows_disjoint 384 256 (by decide) _ inb_S512x1_S128x1_256_0 y hy
    refine Fresh.skip ?_ _ fun y hy => rows_disjoint 384 128 (by decide) _ inb_S512x1_S128x1_128_0 y hy
    refine Fresh.skip ?_ _ fun y hy => rows_disjoint 384 0 (by decide) _ inb_S512x1_S128x1_0_0 y hy
    exact Fresh.fill _ (by decide) _ _ pay2_zero
  refine canon_cons_of (rowSum x0) _ _ y ?_ fun h2 => ?_
  · intro x
    refine sum_piece0 256 _ _ x0 arg5.view _ ?_ x
    refine Fresh.skip ?_ _ fun y hy => rows_disjoint 256 128 (by decide) _ inb_S512x1_S128x1_128_0 y hy
    refine Fresh.skip ?_ _ fun y hy => rows_disjoint 256 0 (by decide) _ inb_S512x1_S128x1_0_0 y hy
    exact Fresh.fill _ (by decide) _ _ pay2_zero
  refine canon_cons_of (rowSum x0) _ _ y ?_ fun h1 => ?_
  · intro x
    refine sum_piece0 128 _ _ x0 arg5.view _ ?_ x
    refine Fresh.skip ?_ _ fun y hy => rows_disjoint 128 0 (by decide) _ inb_S512x1_S128x1_0_0 y hy
    exact Fresh.fill _ (by decide) _ _ pay2_zero
  refine canon_cons_of (rowSum x0) _ _ y ?_ fun h0 => ?_
  · intro x
    refine sum_piece0 0 _ _ x0 arg5.view _ ?_ x
    exact Fresh.fill _ (by decide) _ _ pay2_zero
  exfalso
  simp only [Rect.mem_set_unit] at h0 h1 h2 h3
  have hy : (y 0).val < 512 := (y 0).isLt
  have hy1 : (y 1).val < 1 := (y 1).isLt
  have key : ∀ o, (¬ ∀ a : Fin 2, (![o, 0] : Fin 2 → ℕ) a ≤ (y a).val ∧ (y a).val < (![o, 0] : Fin 2 → ℕ) a + S128x1.size a) →
      ¬ (o ≤ (y 0).val ∧ (y 0).val < o + 128) := fun o ho hn => ho fun a => match a with
    | ⟨0, _⟩ => hn
    | ⟨1, _⟩ => ⟨Nat.zero_le _, by show (y 1).val < 0 + 1; omega⟩
  have k0 := key 0 h0
  have k1 := key 128 h1
  have k2 := key 256 h2
  have k3 := key 384 h3
  omega

/-- The products the first point leaves: the products of its block. -/
theorem out0_A_5_eq (c : Dev nD) (i : grid0.Coords) (arg1 : Memref sig .tc .vmem S512x2048 .f32) (harg1 : arg1.IsWhole)
    (arg2 : Memref sig .tc .vmem S16x32x512 .f32) (harg2 : arg2.IsWhole) (arg3 : Memref sig .tc .vmem S16x2048 .i32)
    (harg3 : arg3.IsWhole) (arg4 : Memref sig .tc .vmem S16x2048 .f32) (harg4 : arg4.IsWhole)
    (arg5 : Memref sig .tc .vmem S512x1 .f32) (harg5 : arg5.IsWhole) (arg6 : Memref sig .tc .vmem S4x128x128 .f32)
    (harg6 : arg6.IsWhole) (hc0 : cond0_0 i)
    (x0 : FVec Ideal S512x2048 .f32) (x1 : FVec Ideal S16x32x512 .f32) :
    out0_A_5 (F := Ideal) c i arg1 harg1 arg2 harg2 arg3 harg3 arg4 harg4 arg5 harg5 arg6 harg6 hc0 x0 x1 = prodSum x0 := by
  funext y
  unfold out0_A_5
  rw [View.read_writes_eq_canon _ _ _ (cover0_A_5 (F := Ideal) c i arg1 harg1 arg2 harg2 arg3 harg3 arg4 harg4 arg5 harg5 arg6 harg6 hc0 x0 x1)]
  unfold kernelRun0_A; dsimp only; sl_unfold_words
  simp only [View.readAt_eq_ld, harg1.read_unread]
  refine canon_cons_of (prodSum x0) _ _ y ?_ fun h3 => ?_
  · intro x
    refine prod_piece0 3 (by decide) _ _ x0 arg6.view _ ?_ x
    refine Fresh.skip ?_ _ fun y hy => blocks_disjoint 3 2 (by decide) _ inb_S4x128x128_S1x128x128_2_0_0 y hy
    refine Fresh.skip ?_ _ fun y hy => blocks_disjoint 3 1 (by decide) _ inb_S4x128x128_S1x128x128_1_0_0 y hy
    refine Fresh.skip ?_ _ fun y hy => blocks_disjoint 3 0 (by decide) _ inb_S4x128x128_S1x128x128_0_0_0 y hy
    exact Fresh.fill _ (by decide) _ _ pay3_zero
  refine canon_cons_of (prodSum x0) _ _ y ?_ fun h2 => ?_
  · intro x
    refine prod_piece0 2 (by decide) _ _ x0 arg6.view _ ?_ x
    refine Fresh.skip ?_ _ fun y hy => blocks_disjoint 2 1 (by decide) _ inb_S4x128x128_S1x128x128_1_0_0 y hy
    refine Fresh.skip ?_ _ fun y hy => blocks_disjoint 2 0 (by decide) _ inb_S4x128x128_S1x128x128_0_0_0 y hy
    exact Fresh.fill _ (by decide) _ _ pay3_zero
  refine canon_cons_of (prodSum x0) _ _ y ?_ fun h1 => ?_
  · intro x
    refine prod_piece0 1 (by decide) _ _ x0 arg6.view _ ?_ x
    refine Fresh.skip ?_ _ fun y hy => blocks_disjoint 1 0 (by decide) _ inb_S4x128x128_S1x128x128_0_0_0 y hy
    exact Fresh.fill _ (by decide) _ _ pay3_zero
  refine canon_cons_of (prodSum x0) _ _ y ?_ fun h0 => ?_
  · intro x
    refine prod_piece0 0 (by decide) _ _ x0 arg6.view _ ?_ x
    exact Fresh.fill _ (by decide) _ _ pay3_zero
  exfalso
  simp only [Rect.mem_set_unit] at h0 h1 h2 h3
  have hy : (y 0).val < 4 := (y 0).isLt
  have hy1 : (y 1).val < 128 := (y 1).isLt
  have hy2 : (y 2).val < 128 := (y 2).isLt
  have key : ∀ o, (¬ ∀ a : Fin 3, (![o, 0, 0] : Fin 3 → ℕ) a ≤ (y a).val
        ∧ (y a).val < (![o, 0, 0] : Fin 3 → ℕ) a + S1x128x128.size a) →
      ¬ (o ≤ (y 0).val ∧ (y 0).val < o + 1) := fun o ho hn => ho fun a => match a with
    | ⟨0, _⟩ => hn
    | ⟨1, _⟩ => ⟨Nat.zero_le _, by show (y 1).val < 0 + 128; omega⟩
    | ⟨2, _⟩ => ⟨Nat.zero_le _, by show (y 2).val < 0 + 128; omega⟩
  have k0 := key 0 h0
  have k1 := key 1 h1
  have k2 := key 2 h2
  have k3 := key 3 h3
  omega

end Cert.KernelIdeal.Channel

end
-- ==== Proof.Region0.lean ====
/-
  What the four arrays of the first region hold when it is done, in terms of the two arrays it reads: at every channel
  and example the position of the first largest response and that response; the sum over all examples of every feature;
  and the sum over all examples of the product of every two features of one group.
-/
module

public import proofs.«01_k».proof.Proof.Responses
public import proofs.«01_k».proof.Proof.Sums
public import Idealize.ShloMosaic.Lib.Pipeline.ValueKit.Geometry
public import Idealize.ShloMosaic.Lib.Pipeline.ValueKit.Acc

@[expose] public section

set_option maxRecDepth 16384

noncomputable section

namespace Cert.KernelIdeal.Region0

open Idealize.ShloMosaic Idealize.ShloMosaic.TcCoe Idealize.ShloMosaic.Tactic Idealize.ShloMosaic.ValueIdx
open Idealize.ShloMosaic.Pipeline (Dat Cfg Window)
open Cert.KernelIdeal Cert.KernelIdeal.Gen Cert.KernelIdeal.Channel
open scoped BigOperators

variable (V : (c : Dev nD) → (b : Ref sig .tc) → Buf (Elt Ideal) ((c : Thread nD τ).loc b))

/-- The examples as the region finds them: one row per feature, one column per example. -/
abbrev X (c : Dev nD) : FVec Ideal S512x16384 .f32 := V c main_v1
/-- The centroids as the region finds them. -/
abbrev Wt (c : Dev nD) : FVec Ideal S16x32x512 .f32 := V c main_v2

/-- The response of centroid `k` of channel `n` to example `b`. -/
def score (X : FVec Ideal S512x16384 .f32) (W : FVec Ideal S16x32x512 .f32) (n : Fin 16) (b : Fin 16384) (k : Fin 512) : EReal :=
  ∑ d : Fin 32, W (ix3 n d k) * X (ix2 (feat n d) b)

/-- The first largest position of 512 values. -/
def firstOf (f : Fin 512 → EReal) : Fin 512 := (exists_first f).choose

theorem firstOf_spec (f : Fin 512 → EReal) : First f (firstOf f) := (exists_first f).choose_spec

/-- Example `l` of point `t`'s block, among all examples. -/
def at_ (t : Fin cfg0.N) (l : Fin 2048) : Fin 16384 := ⟨2048 * t.val + l.val, by
  have h : t.val < 8 := Nat.lt_of_lt_of_eq t.isLt N_0
  omega⟩

theorem index_0 : ∀ t : Fin cfg0.N, win0_0.index t 0 = 0 ∧ win0_0.index t 1 = t.val :=
  (by decide +kernel : ∀ t : Fin grid0.N, win0_0.index t 0 = 0 ∧ win0_0.index t 1 = t.val)
theorem index_1 : ∀ t : Fin cfg0.N, win0_1.index t 0 = 0 ∧ win0_1.index t 1 = 0 ∧ win0_1.index t 2 = 0 :=
  (by decide +kernel : ∀ t : Fin grid0.N, win0_1.index t 0 = 0 ∧ win0_1.index t 1 = 0 ∧ win0_1.index t 2 = 0)
theorem index_2 : ∀ t : Fin cfg0.N, win0_2.index t 0 = 0 ∧ win0_2.index t 1 = t.val :=
  (by decide +kernel : ∀ t : Fin grid0.N, win0_2.index t 0 = 0 ∧ win0_2.index t 1 = t.val)
theorem index_3 : ∀ t : Fin cfg0.N, win0_3.index t 0 = 0 ∧ win0_3.index t 1 = t.val :=
  (by decide +kernel : ∀ t : Fin grid0.N, win0_3.index t 0 = 0 ∧ win0_3.index t 1 = t.val)
theorem index_4 : ∀ t : Fin cfg0.N, win0_4.index t 0 = 0 ∧ win0_4.index t 1 = 0 :=
  (by decide +kernel : ∀ t : Fin grid0.N, win0_4.index t 0 = 0 ∧ win0_4.index t 1 = 0)
theorem index_5 : ∀ t : Fin cfg0.N, win0_5.index t 0 = 0 ∧ win0_5.index t 1 = 0 ∧ win0_5.index t 2 = 0 :=
  (by decide +kernel : ∀ t : Fin grid0.N, win0_5.index t 0 = 0 ∧ win0_5.index t 1 = 0 ∧ win0_5.index t 2 = 0)

/-- The block of examples at a point. -/
theorem iblk_x (c : Dev nD) (t : Fin cfg0.N) (a : Fin 512) (l : Fin 2048) :
    (iblk0 V c 0 t : FVec Ideal S512x2048 .f32) (ix2 a l) = X V c (ix2 a (at_ t l)) := by
  unfold iblk0
  rw [View.read_apply]
  show V c main_v1 _ = V c main_v1 _
  congr 1
  obtain ⟨h0, h1⟩ := index_0 t
  funext x; apply Fin.ext
  match x with
  | ⟨0, _⟩ => show win0_0.index t 0 * 512 + 1 * a.val = a.val; rw [h0]; omega
  | ⟨1, _⟩ => show win0_0.index t 1 * 2048 + 1 * l.val = 2048 * t.val + l.val; rw [h1]; omega

/-- The centroids at a point: all of them. -/
theorem iblk_w (c : Dev nD) (t : Fin cfg0.N) (n : Fin 16) (d : Fin 32) (k : Fin 512) :
    (iblk0 V c 1 t : FVec Ideal S16x32x512 .f32) (ix3 n d k) = Wt V c (ix3 n d k) := by
  unfold iblk0
  rw [View.read_apply]
  show V c main_v2 _ = V c main_v2 _
  congr 1
  obtain ⟨h0, h1, h2⟩ := index_1 t
  funext x; apply Fin.ext
  match x with
  | ⟨0, _⟩ => show win0_1.index t 0 * 16 + 1 * n.val = n.val; rw [h0]; omega
  | ⟨1, _⟩ => show win0_1.index t 1 * 32 + 1 * d.val = d.val; rw [h1]; omega
  | ⟨2, _⟩ => show win0_1.index t 2 * 512 + 1 * k.val = k.val; rw [h2]; omega

/-- A block's responses are those of its examples. -/
theorem score_block (c : Dev nD) (t : Fin cfg0.N) (n : Fin 16) (b : Fin 2048) :
    Channel.score (iblk0 V c 0 t) (iblk0 V c 1 t) n b = score (X V c) (Wt V c) n (at_ t b) := by
  funext k
  refine Finset.sum_congr rfl fun d _ => ?_
  rw [iblk_x, iblk_w]

/-- The codes a point writes. -/
theorem outs_codes (c : Dev nD) (t : Fin cfg0.N) :
    (outsAt0 V c t.val t.isLt).1 = fptosi 32 (stack (iblk0 V c 0 t) (iblk0 V c 1 t) idxRow) := by
  by_cases h0 : t.val % 8 = 0
  · have e := congrArg Prod.fst (outsAt0_A V c t h0)
    have e' := out0_A_2_eq c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (iblk0 V c 0 t) (iblk0 V c 1 t)
    dsimp only at e
    exact e.trans e'
  · have e := congrArg Prod.fst (outsAt0_B V c t h0)
    have e' := out0_B_2_eq c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) (iblk0 V c 0 t) (iblk0 V c 1 t)
      (outsAt0 V c (t.val - 1) (Nat.lt_of_le_of_lt (Nat.sub_le _ _) t.isLt)).2.2.1 (outsAt0 V c (t.val - 1) (Nat.lt_of_le_of_lt (Nat.sub_le _ _) t.isLt)).2.2.2
    dsimp only at e
    exact e.trans e'

/-- The largest responses a point writes. -/
theorem outs_best (c : Dev nD) (t : Fin cfg0.N) :
    (outsAt0 V c t.val t.isLt).2.1 = stack (iblk0 V c 0 t) (iblk0 V c 1 t) maxRow := by
  by_cases h0 : t.val % 8 = 0
  · have e := congrArg (fun o => o.2.1) (outsAt0_A V c t h0)
    have e' := out0_A_3_eq c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (iblk0 V c 0 t) (iblk0 V c 1 t)
    dsimp only at e
    exact e.trans e'
  · have e := congrArg (fun o => o.2.1) (outsAt0_B V c t h0)
    have e' := out0_B_3_eq c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) (iblk0 V c 0 t) (iblk0 V c 1 t)
      (outsAt0 V c (t.val - 1) (Nat.lt_of_le_of_lt (Nat.sub_le _ _) t.isLt)).2.2.1 (outsAt0 V c (t.val - 1) (Nat.lt_of_le_of_lt (Nat.sub_le _ _) t.isLt)).2.2.2
    dsimp only at e
    exact e.trans e'

/-- The array of codes: at every channel and example the position of the first largest response. -/
theorem codes (c : Dev nD) : (dat0 V c).arrAt 2 cfg0.N
    = fun i : S16x16384.Idx => BitVec.ofNat 32 (firstOf (score (X V c) (Wt V c) (i 0) (i 1))).val := by
  refine (dat0 V c).arrAt_eq_of_covers 2 _ (by decide +kernel) fun t hf y => ?_
  obtain ⟨n, b, rfl⟩ : ∃ (n : Fin 16) (b : Fin 2048), y = ix2 n b := ⟨_, _, eq_ix2 y⟩
  rw [after0_2, outs_codes]
  obtain ⟨h0, h1⟩ := index_2 t
  have e0 : ((((cfg0.win 2).blk t).view.emb (ix2 n b) : S16x16384.Idx) 0) = n := by
    apply Fin.ext; show win0_2.index t 0 * 16 + 1 * n.val = n.val; rw [h0]; omega
  have e1 : ((((cfg0.win 2).blk t).view.emb (ix2 n b) : S16x16384.Idx) 1) = at_ t b := by
    apply Fin.ext; show win0_2.index t 1 * 2048 + 1 * b.val = 2048 * t.val + b.val; rw [h1]; omega
  rw [e0, e1, ← score_block]
  exact (stack_first _ _ n b _ (firstOf_spec _)).2

/-- The array of largest responses. -/
theorem best (c : Dev nD) : (dat0 V c).arrAt 3 cfg0.N
    = fun i : S16x16384.Idx => score (X V c) (Wt V c) (i 0) (i 1) (firstOf (score (X V c) (Wt V c) (i 0) (i 1))) := by
  refine (dat0 V c).arrAt_eq_of_covers 3 _ (by decide +kernel) fun t hf y => ?_
  obtain ⟨n, b, rfl⟩ : ∃ (n : Fin 16) (b : Fin 2048), y = ix2 n b := ⟨_, _, eq_ix2 y⟩
  rw [after0_3, outs_best]
  obtain ⟨h0, h1⟩ := index_3 t
  have e0 : ((((cfg0.win 3).blk t).view.emb (ix2 n b) : S16x16384.Idx) 0) = n := by
    apply Fin.ext; show win0_3.index t 0 * 16 + 1 * n.val = n.val; rw [h0]; omega
  have e1 : ((((cfg0.win 3).blk t).view.emb (ix2 n b) : S16x16384.Idx) 1) = at_ t b := by
    apply Fin.ext; show win0_3.index t 1 * 2048 + 1 * b.val = 2048 * t.val + b.val; rw [h1]; omega
  rw [e0, e1, ← score_block]
  exact (stack_first _ _ n b _ (firstOf_spec _)).1

/-- The sums over all examples are the sums over the points of the sums over a block. -/
theorem sum_blocks (f : Fin 16384 → EReal) : ∑ t : Fin cfg0.N, ∑ l : Fin 2048, f (at_ t l) = ∑ b : Fin 16384, f b := by
  rw [← Fin.sum_mul_add_fin (cfg0.N) 2048 f (by rw [show cfg0.N = 8 from N_0])]
  refine Finset.sum_congr rfl fun t _ => Finset.sum_congr rfl fun l _ => congrArg f (Fin.ext ?_)
  show 2048 * t.val + l.val = t.val * 2048 + l.val
  omega

/-- The array of the features' sums. -/
theorem sums (c : Dev nD) : (dat0 V c).arrAt 4 cfg0.N
    = fun i : S512x1.Idx => ∑ b : Fin 16384, X V c (ix2 (i 0) b) := by
  refine (dat0 V c).arrAt_eq_of_covers 4 _ (by decide +kernel) fun t hf y => ?_
  obtain ⟨a, z, rfl⟩ : ∃ (a : Fin 512) (z : Fin 1), y = ix2 a z := ⟨_, _, eq_ix2 y⟩
  have ht : t.val + 1 = cfg0.N := by
    have h7 := (flush0_4 t).1 hf
    have hl : t.val < 8 := Nat.lt_of_lt_of_eq t.isLt N_0
    refine Eq.trans ?_ (N_0 : cfg0.N = 8).symm
    omega
  rw [after0_4]
  obtain ⟨h0, h1⟩ := index_4 t
  have e0 : ((((cfg0.win 4).blk t).view.emb (ix2 a z) : S512x1.Idx) 0) = a := by
    apply Fin.ext; show win0_4.index t 0 * 512 + 1 * a.val = a.val; rw [h0]; omega
  rw [e0]
  have e := Pipeline.eq_sum_fin_of_reset_step_last (fun n h => (outsAt0 V c n h).2.2.1 (ix2 a z)) 8 (0 : EReal)
    (fun p => ∑ l : Fin 2048, X V c (ix2 a (at_ p l)))
    (fun p hp => by
      have e := congrArg (fun o => o.2.2.1) (outsAt0_A V c p hp)
      have e' := out0_A_4_eq c (grid0.coords p) (ms0_0 p) (hs0_0 p) (ms0_1 p) (hs0_1 p) (ms0_2 p) (hs0_2 p) (ms0_3 p) (hs0_3 p) (ms0_4 p) (hs0_4 p) (ms0_5 p) (hs0_5 p) ((hcond0_0 p).mpr hp) (iblk0 V c 0 p) (iblk0 V c 1 p)
      dsimp only at e
      refine (congrFun (e.trans e') (ix2 a z)).trans ?_
      rw [zero_add]
      exact Finset.sum_congr rfl fun l _ => iblk_x V c p a l)
    (fun p hp => by
      have e := congrArg (fun o => o.2.2.1) (outsAt0_B V c p hp)
      have e' := out0_B_4_eq c (grid0.coords p) (ms0_0 p) (hs0_0 p) (ms0_1 p) (hs0_1 p) (ms0_2 p) (hs0_2 p) (ms0_3 p) (hs0_3 p) (ms0_4 p) (hs0_4 p) (ms0_5 p) (hs0_5 p) (fun h => hp ((hcond0_0 p).mp h)) (iblk0 V c 0 p) (iblk0 V c 1 p)
        (outsAt0 V c (p.val - 1) (Nat.lt_of_le_of_lt (Nat.sub_le _ _) p.isLt)).2.2.1 (outsAt0 V c (p.val - 1) (Nat.lt_of_le_of_lt (Nat.sub_le _ _) p.isLt)).2.2.2
      dsimp only at e
      refine (congrFun (e.trans e') (ix2 a z)).trans ?_
      exact congrArg₂ (· + ·) rfl (Finset.sum_congr rfl fun l _ => iblk_x V c p a l))
    (Nat.le_of_eq N_0) t ht
  rw [zero_add, sum_blocks fun b => X V c (ix2 a b)] at e
  exact e

/-- Feature `a` of group `g`, as a row of the examples. -/
def row (g : Fin 4) (a : Fin 128) : Fin 512 := ⟨128 * g.val + a.val, by omega⟩

/-- The array of the sums of products. -/
theorem prods (c : Dev nD) : (dat0 V c).arrAt 5 cfg0.N
    = fun i : S4x128x128.Idx => ∑ b : Fin 16384, X V c (ix2 (row (i 0) (i 1)) b) * X V c (ix2 (row (i 0) (i 2)) b) := by
  refine (dat0 V c).arrAt_eq_of_covers 5 _ (by decide +kernel) fun t hf y => ?_
  obtain ⟨g, p, q, rfl⟩ : ∃ (g : Fin 4) (p q : Fin 128), y = ix3 g p q := ⟨_, _, _, eq_ix3 y⟩
  have ht : t.val + 1 = cfg0.N := by
    have h7 := (flush0_5 t).1 hf
    have hl : t.val < 8 := Nat.lt_of_lt_of_eq t.isLt N_0
    refine Eq.trans ?_ (N_0 : cfg0.N = 8).symm
    omega
  rw [after0_5]
  obtain ⟨h0, h1, h2⟩ := index_5 t
  have e0 : ((((cfg0.win 5).blk t).view.emb (ix3 g p q) : S4x128x128.Idx) 0) = g := by
    apply Fin.ext; show win0_5.index t 0 * 4 + 1 * g.val = g.val; rw [h0]; omega
  have e1 : ((((cfg0.win 5).blk t).view.emb (ix3 g p q) : S4x128x128.Idx) 1) = p := by
    apply Fin.ext; show win0_5.index t 1 * 128 + 1 * p.val = p.val; rw [h1]; omega
  have e2 : ((((cfg0.win 5).blk t).view.emb (ix3 g p q) : S4x128x128.Idx) 2) = q := by
    apply Fin.ext; show win0_5.index t 2 * 128 + 1 * q.val = q.val; rw [h2]; omega
  rw [e0, e1, e2]
  have e := Pipeline.eq_sum_fin_of_reset_step_last (fun n h => (outsAt0 V c n h).2.2.2 (ix3 g p q)) 8 (0 : EReal)
    (fun s => ∑ l : Fin 2048, X V c (ix2 (row g p) (at_ s l)) * X V c (ix2 (row g q) (at_ s l)))
    (fun s hs => by
      have e := congrArg (fun o => o.2.2.2) (outsAt0_A V c s hs)
      have e' := out0_A_5_eq c (grid0.coords s) (ms0_0 s) (hs0_0 s) (ms0_1 s) (hs0_1 s) (ms0_2 s) (hs0_2 s) (ms0_3 s) (hs0_3 s) (ms0_4 s) (hs0_4 s) (ms0_5 s) (hs0_5 s) ((hcond0_0 s).mpr hs) (iblk0 V c 0 s) (iblk0 V c 1 s)
      dsimp only at e
      refine (congrFun (e.trans e') (ix3 g p q)).trans ?_
      rw [zero_add]
      exact Finset.sum_congr rfl fun l _ => congrArg₂ (· * ·) (iblk_x V c s (row g p) l) (iblk_x V c s (row g q) l))
    (fun s hs => by
      have e := congrArg (fun o => o.2.2.2) (outsAt0_B V c s hs)
      have e' := out0_B_5_eq c (grid0.coords s) (ms0_0 s) (hs0_0 s) (ms0_1 s) (hs0_1 s) (ms0_2 s) (hs0_2 s) (ms0_3 s) (hs0_3 s) (ms0_4 s) (hs0_4 s) (ms0_5 s) (hs0_5 s) (fun h => hs ((hcond0_0 s).mp h)) (iblk0 V c 0 s) (iblk0 V c 1 s)
        (outsAt0 V c (s.val - 1) (Nat.lt_of_le_of_lt (Nat.sub_le _ _) s.isLt)).2.2.1 (outsAt0 V c (s.val - 1) (Nat.lt_of_le_of_lt (Nat.sub_le _ _) s.isLt)).2.2.2
      dsimp only at e
      refine (congrFun (e.trans e') (ix3 g p q)).trans ?_
      exact congrArg₂ (· + ·) rfl (Finset.sum_congr rfl fun l _ => congrArg₂ (· * ·) (iblk_x V c s (row g p) l) (iblk_x V c s (row g q) l)))
    (Nat.le_of_eq N_0) t ht
  rw [zero_add, sum_blocks fun b => X V c (ix2 (row g p) b) * X V c (ix2 (row g q) b)] at e
  exact e

end Cert.KernelIdeal.Region0

end
-- ==== Proof.Totals.lean ====
/-
  The second region's value: for every channel the sum and the sum of squares of all its responses, from the sums the
  first region left; then mean, variance, scale and offset, and each channel's largest responses scaled and shifted.
-/
module

public import proofs.«01_k».proof.Proof.Responses

@[expose] public section

set_option maxRecDepth 16384

noncomputable section

namespace Cert.KernelIdeal.Totals

open Idealize.ShloMosaic Idealize.ShloMosaic.TcCoe Idealize.ShloMosaic.Tactic Idealize.ShloMosaic.ValueIdx
open Cert.KernelIdeal Cert.KernelIdeal.Gen Cert.KernelIdeal.Channel
open scoped BigOperators

/-- A channel's sum of responses, from its centroids and its features' sums. -/
def tot (w : FVec Ideal S1x32x512 .f32) (xs : FVec Ideal S32x1 .f32) : EReal :=
  extractAt ![0, 0, 0] (shapeCast S1x1x1 (multiReduction .add [1, 2] S1 (shapeCast S1x512x1
    (matmul dot_S32x512_S32x1_S512x1_0_0_1_1_n_n none (shapeCast S32x512 w shapeCasts_S1x32x512_S32x512)
      (shapeCast S32x1 xs shapeCasts_S32x1_S32x1) (constant S512x1 .f32 0x00000000#32)) shapeCasts_S512x1_S1x512x1)
    0x00000000#32 reduces_S1x512x1_S1 (.inl rfl) rfl) shapeCasts_S1_S1x1x1) inpos_S1x1x1_p0_0_0

/-- A channel's sum of squared responses, from its centroids and its features' products. -/
def tot2 (w : FVec Ideal S1x32x512 .f32) (gx : FVec Ideal S1x32x32 .f32) : EReal :=
  extractAt ![0, 0, 0] (shapeCast S1x1x1 (multiReduction .add [1, 2] S1 (shapeCast S1x32x512
    (mulf (matmul dot_S32x32_S32x512_S32x512_1_0_0_1_n_n none (shapeCast S32x32 gx shapeCasts_S1x32x32_S32x32)
      (shapeCast S32x512 w shapeCasts_S1x32x512_S32x512) (constant S32x512 .f32 0x00000000#32))
      (shapeCast S32x512 w shapeCasts_S1x32x512_S32x512)) shapeCasts_S32x512_S1x32x512)
    0x00000000#32 reduces_S1x32x512_S1 (.inl rfl) rfl) shapeCasts_S1_S1x1x1) inpos_S1x1x1_p0_0_0

/-- One number added to one entry of a column. -/
def put (v : FVec Ideal S16x1 .f32) (c : BitVec 32) (s : EReal) : FVec Ideal S16x1 .f32 :=
  addf v (select (cmpi .eq (iota .tc S16x1 32 [0] iota_S16x1_d0_w32) (broadcast S16x1 c))
    (broadcast S16x1 (s : Ideal .f32)) (broadcast S16x1 (Scalar.ofBits (F := Ideal) .f32 0x00000000#32)))

/-- The column of sixteen numbers, put in one by one. -/
def column (f : Fin 16 → EReal) : FVec Ideal S16x1 .f32 :=
  put (put (put (put (put (put (put (put (put (put (put (put (put (put (put (put (broadcast S16x1 (Scalar.ofBits (F := Ideal) .f32 0x00000000#32)) 0#32 (f 0)) 1#32 (f 1)) 2#32 (f 2)) 3#32 (f 3)) 4#32 (f 4)) 5#32 (f 5)) 6#32 (f 6)) 7#32 (f 7)) 8#32 (f 8)) 9#32 (f 9)) 10#32 (f 10)) 11#32 (f 11)) 12#32 (f 12)) 13#32 (f 13)) 14#32 (f 14)) 15#32 (f 15)

/-- The mean of each channel. -/
def mean (n : EReal) (s1 : FVec Ideal S16x1 .f32) : FVec Ideal S16x1 .f32 := divf s1 (broadcast S16x1 (n : Ideal .f32))

/-- The factor of each channel. -/
def scale (n : EReal) (s1 s2 g : FVec Ideal S16x1 .f32) : FVec Ideal S16x1 .f32 :=
  divf g (sqrt (addf (subf (divf s2 (broadcast S16x1 (n : Ideal .f32))) (mulf (mean n s1) (mean n s1)))
    (broadcast S16x1 (Scalar.ofBits (F := Ideal) .f32 0x3727C5AC#32))))

/-- The largest responses scaled and shifted. -/
def final (n : EReal) (s1 s2 g b : FVec Ideal S16x1 .f32) (raw : FVec Ideal S16x16384 .f32) : FVec Ideal S16x16384 .f32 :=
  addf (mulf raw (broadcastTo S16x16384 (scale n s1 s2 g) broadcasts_S16x1_S16x16384))
    (broadcastTo S16x16384 (subf b (mulf (mean n s1) (scale n s1 s2 g))) broadcasts_S16x1_S16x16384)

/-- The region's value in these terms. -/
theorem out_eq (x0 : FVec Ideal S16x16384 .f32) (x1 : FVec Ideal S512x1 .f32) (x2 : FVec Ideal S4x128x128 .f32)
    (x3 : FVec Ideal S16x32x512 .f32) (x4 x5 : FVec Ideal S16x1 .f32) (x6 : FVec Ideal S1x1 .f32) :
    out1_7 (F := Ideal) x0 x1 x2 x3 x4 x5 x6
      = final (x6 (ix2 0 0))
          (column ![tot (View.ld (Val := Elt Ideal) (e' := .f32) x3 r1_1) (View.ld (Val := Elt Ideal) (e' := .f32) x1 r1_2), tot (View.ld (Val := Elt Ideal) (e' := .f32) x3 r1_4) (View.ld (Val := Elt Ideal) (e' := .f32) x1 r1_5), tot (View.ld (Val := Elt Ideal) (e' := .f32) x3 r1_7) (View.ld (Val := Elt Ideal) (e' := .f32) x1 r1_8), tot (View.ld (Val := Elt Ideal) (e' := .f32) x3 r1_10) (View.ld (Val := Elt Ideal) (e' := .f32) x1 r1_11), tot (View.ld (Val := Elt Ideal) (e' := .f32) x3 r1_13) (View.ld (Val := Elt Ideal) (e' := .f32) x1 r1_14), tot (View.ld (Val := Elt Ideal) (e' := .f32) x3 r1_16) (View.ld (Val := Elt Ideal) (e' := .f32) x1 r1_17), tot (View.ld (Val := Elt Ideal) (e' := .f32) x3 r1_19) (View.ld (Val := Elt Ideal) (e' := .f32) x1 r1_20), tot (View.ld (Val := Elt Ideal) (e' := .f32) x3 r1_22) (View.ld (Val := Elt Ideal) (e' := .f32) x1 r1_23), tot (View.ld (Val := Elt Ideal) (e' := .f32) x3 r1_25) (View.ld (Val := Elt Ideal) (e' := .f32) x1 r1_26), tot (View.ld (Val := Elt Ideal) (e' := .f32) x3 r1_28) (View.ld (Val := Elt Ideal) (e' := .f32) x1 r1_29), tot (View.ld (Val := Elt Ideal) (e' := .f32) x3 r1_31) (View.ld (Val := Elt Ideal) (e' := .f32) x1 r1_32), tot (View.ld (Val := Elt Ideal) (e' := .f32) x3 r1_34) (View.ld (Val := Elt Ideal) (e' := .f32) x1 r1_35), tot (View.ld (Val := Elt Ideal) (e' := .f32) x3 r1_37) (View.ld (Val := Elt Ideal) (e' := .f32) x1 r1_38), tot (View.ld (Val := Elt Ideal) (e' := .f32) x3 r1_40) (View.ld (Val := Elt Ideal) (e' := .f32) x1 r1_41), tot (View.ld (Val := Elt Ideal) (e' := .f32) x3 r1_43) (View.ld (Val := Elt Ideal) (e' := .f32) x1 r1_44), tot (View.ld (Val := Elt Ideal) (e' := .f32) x3 r1_46) (View.ld (Val := Elt Ideal) (e' := .f32) x1 r1_47)])
          (column ![tot2 (View.ld (Val := Elt Ideal) (e' := .f32) x3 r1_1) (View.ld (Val := Elt Ideal) (e' := .f32) x2 r1_3), tot2 (View.ld (Val := Elt Ideal) (e' := .f32) x3 r1_4) (View.ld (Val := Elt Ideal) (e' := .f32) x2 r1_6), tot2 (View.ld (Val := Elt Ideal) (e' := .f32) x3 r1_7) (View.ld (Val := Elt Ideal) (e' := .f32) x2 r1_9), tot2 (View.ld (Val := Elt Ideal) (e' := .f32) x3 r1_10) (View.ld (Val := Elt Ideal) (e' := .f32) x2 r1_12), tot2 (View.ld (Val := Elt Ideal) (e' := .f32) x3 r1_13) (View.ld (Val := Elt Ideal) (e' := .f32) x2 r1_15), tot2 (View.ld (Val := Elt Ideal) (e' := .f32) x3 r1_16) (View.ld (Val := Elt Ideal) (e' := .f32) x2 r1_18), tot2 (View.ld (Val := Elt Ideal) (e' := .f32) x3 r1_19) (View.ld (Val := Elt Ideal) (e' := .f32) x2 r1_21), tot2 (View.ld (Val := Elt Ideal) (e' := .f32) x3 r1_22) (View.ld (Val := Elt Ideal) (e' := .f32) x2 r1_24), tot2 (View.ld (Val := Elt Ideal) (e' := .f32) x3 r1_25) (View.ld (Val := Elt Ideal) (e' := .f32) x2 r1_27), tot2 (View.ld (Val := Elt Ideal) (e' := .f32) x3 r1_28) (View.ld (Val := Elt Ideal) (e' := .f32) x2 r1_30), tot2 (View.ld (Val := Elt Ideal) (e' := .f32) x3 r1_31) (View.ld (Val := Elt Ideal) (e' := .f32) x2 r1_33), tot2 (View.ld (Val := Elt Ideal) (e' := .f32) x3 r1_34) (View.ld (Val := Elt Ideal) (e' := .f32) x2 r1_36), tot2 (View.ld (Val := Elt Ideal) (e' := .f32) x3 r1_37) (View.ld (Val := Elt Ideal) (e' := .f32) x2 r1_39), tot2 (View.ld (Val := Elt Ideal) (e' := .f32) x3 r1_40) (View.ld (Val := Elt Ideal) (e' := .f32) x2 r1_42), tot2 (View.ld (Val := Elt Ideal) (e' := .f32) x3 r1_43) (View.ld (Val := Elt Ideal) (e' := .f32) x2 r1_45), tot2 (View.ld (Val := Elt Ideal) (e' := .f32) x3 r1_46) (View.ld (Val := Elt Ideal) (e' := .f32) x2 r1_48)])
          x4 x5 x0 := by
  unfold out1_7
  rw [View.canon_unit_zero (S := S16x16384) (off := ![0, 0]) (by decide) _ _]
  have h0 : View.ld (Val := Elt Ideal) (e' := .f32) x0 r1_50 = x0 := View.ld_unit_zero (Val := Elt Ideal) (e := .f32) (S := S16x16384) (off := ![0, 0]) (by decide) _ x0
  have h4 : View.ld (Val := Elt Ideal) (e' := .f32) x4 r1_49 = x4 := View.ld_unit_zero (Val := Elt Ideal) (e := .f32) (S := S16x1) (off := ![0, 0]) (by decide) _ x4
  have h5 : View.ld (Val := Elt Ideal) (e' := .f32) x5 r1_49 = x5 := View.ld_unit_zero (Val := Elt Ideal) (e := .f32) (S := S16x1) (off := ![0, 0]) (by decide) _ x5
  have h6 : k1_pay2 (F := Ideal) (View.ld (Val := Elt Ideal) (e' := .f32) x6 r1_0) = x6 (ix2 0 0) := by
    have e : View.ld (Val := Elt Ideal) (e' := .f32) x6 r1_0 = x6 := View.ld_unit_zero (Val := Elt Ideal) (e := .f32) (S := S1x1) (off := ![0, 0]) (by decide) _ x6
    rw [e]
    exact congrArg x6 (Shape.idx_ext₂ rfl rfl)
  rw [h0, h4, h5, h6]
  have c0 : ∀ x : FVec Ideal S16x16384 .f32, shapeCast S16x16384 x shapeCasts_S16x16384_S16x16384 = x := fun x => shapeCast_self _ _
  have c1 : ∀ x : FVec Ideal S16x1 .f32, shapeCast S16x1 x shapeCasts_S16x1_S16x1 = x := fun x => shapeCast_self _ _
  unfold k1_pay1
  dsimp only
  rw [c0, c1, c1]
  rfl

/-- One number added to one entry of a column, at an index. -/
theorem put_apply (v : FVec Ideal S16x1 .f32) (c : ℕ) (hc : c < 16) (s : EReal) (n : Fin 16) (z : Fin 1) :
    put v (BitVec.ofNat 32 c) s (ix2 n z) = v (ix2 n z) + if n.val = c then s else 0 := by
  unfold put
  rw [addf_apply, select_apply]
  refine congrArg₂ (· + ·) rfl ?_
  have hi : cmpi .eq (iota .tc S16x1 32 [0] iota_S16x1_d0_w32) (broadcast S16x1 (BitVec.ofNat 32 c)) (ix2 n z)
      = if n.val = c then 1#1 else 0#1 := by
    show IntOp.cmpi .eq (iota .tc S16x1 32 [0] iota_S16x1_d0_w32 (ix2 n z)) (BitVec.ofNat 32 c) = _
    rw [iota_single_apply]
    show IntOp.cmpi .eq (BitVec.ofNat 32 n.val) (BitVec.ofNat 32 c) = _
    have hn : n.val < 16 := n.isLt
    generalize n.val = k at *
    interval_cases k <;> interval_cases c <;> rfl
  rw [hi]
  have hz : (Scalar.ofBits (F := Ideal) .f32 0x00000000#32 : EReal) = 0 := by
    show Ideal.ofBits .f32 0x00000000#32 = 0
    simp [Ideal.ofBits, Ideal.ieee]
  by_cases h : n.val = c
  · rw [if_pos h, if_pos h]; rfl
  · rw [if_neg h, if_neg h]; exact hz

/-- The column holds its numbers. -/
theorem column_apply (f : Fin 16 → EReal) (n : Fin 16) (z : Fin 1) : column f (ix2 n z) = f n := by
  have hz : (broadcast S16x1 (Scalar.ofBits (F := Ideal) .f32 0x00000000#32) : FVec Ideal S16x1 .f32) (ix2 n z) = 0 := by
    show Ideal.ofBits .f32 0x00000000#32 = 0
    simp [Ideal.ofBits, Ideal.ieee]
  unfold column
  rw [put_apply _ 15 (by omega), put_apply _ 14 (by omega), put_apply _ 13 (by omega), put_apply _ 12 (by omega), put_apply _ 11 (by omega), put_apply _ 10 (by omega), put_apply _ 9 (by omega), put_apply _ 8 (by omega), put_apply _ 7 (by omega), put_apply _ 6 (by omega), put_apply _ 5 (by omega), put_apply _ 4 (by omega), put_apply _ 3 (by omega), put_apply _ 2 (by omega), put_apply _ 1 (by omega), put_apply _ 0 (by omega), hz]
  fin_cases n <;> simp

/-- A sum over the entries of a reshaped array is the sum over the array's. -/
theorem sum_shapeCast (s t : Shape) (x : s.Idx → EReal) (h : s.ShapeCasts t) : ∑ j, shapeCast t x h j = ∑ i, x i :=
  Equiv.sum_comp (Shape.reshapeEquiv h) x

/-- A channel's sum of responses, written out. -/
theorem tot_apply (w : FVec Ideal S1x32x512 .f32) (xs : FVec Ideal S32x1 .f32) :
    tot w xs = ∑ k : Fin 512, ∑ d : Fin 32, w (ix3 (0 : Fin 1) d k) * xs (ix2 d 0) := by
  unfold tot extractAt
  refine (shapeCast_apply _ _ _ (ix1 0) rfl).trans ?_
  refine (Ideal.multiReduction_add_total _ _ _ (by decide) _ _ _).trans ?_
  refine (sum_shapeCast _ _ _ _).trans ?_
  rw [sum_idx2]
  refine Finset.sum_congr rfl fun k _ => ?_
  rw [Fin.sum_univ_one]
  simp only [matmul]
  rw [Ideal.matmul_constant_zero_apply, ← Equiv.sum_comp (contrEquiv1 _ 32 rfl rfl).symm]
  refine Finset.sum_congr rfl fun d _ => ?_
  refine congrArg₂ (· * ·) ?_ ?_
  · refine shapeCast_apply _ _ _ (ix3 (0 : Fin 1) d k) ?_
    rw [Shape.rowMajor_val_two, Shape.rowMajor_val_three]
    show (0 * 32 + d.val) * 512 + k.val = d.val * 512 + k.val
    omega
  · rw [shapeCast_self]
    exact congrArg xs (Shape.idx_ext₂ rfl rfl)

/-- A channel's sum of squared responses, written out. -/
theorem tot2_apply (w : FVec Ideal S1x32x512 .f32) (gx : FVec Ideal S1x32x32 .f32) :
    tot2 w gx = ∑ d : Fin 32, ∑ k : Fin 512,
      (∑ e : Fin 32, gx (ix3 (0 : Fin 1) d e) * w (ix3 (0 : Fin 1) e k)) * w (ix3 (0 : Fin 1) d k) := by
  unfold tot2 extractAt
  refine (shapeCast_apply _ _ _ (ix1 0) rfl).trans ?_
  refine (Ideal.multiReduction_add_total _ _ _ (by decide) _ _ _).trans ?_
  refine (sum_shapeCast _ _ _ _).trans ?_
  rw [sum_idx2]
  have hw : ∀ (d : Fin 32) (k : Fin 512), shapeCast S32x512 w shapeCasts_S1x32x512_S32x512 (ix2 d k) = w (ix3 (0 : Fin 1) d k) := fun d k => by
    refine shapeCast_apply _ _ _ (ix3 (0 : Fin 1) d k) ?_
    rw [Shape.rowMajor_val_two, Shape.rowMajor_val_three]
    show (0 * 32 + d.val) * 512 + k.val = d.val * 512 + k.val
    omega
  refine Finset.sum_congr rfl fun d _ => Finset.sum_congr rfl fun k _ => ?_
  rw [mulf_apply]
  refine congrArg₂ (· * ·) ?_ (hw d k)
  simp only [matmul]
  rw [Ideal.matmul_constant_zero_apply, ← Equiv.sum_comp (contrEquiv1 _ 32 rfl rfl).symm]
  refine Finset.sum_congr rfl fun e _ => ?_
  refine congrArg₂ (· * ·) ?_ ((congrArg _ (Shape.idx_ext₂ rfl rfl)).trans (hw e k))
  refine shapeCast_apply _ _ _ (ix3 (0 : Fin 1) d e) ?_
  rw [Shape.rowMajor_val_two, Shape.rowMajor_val_three]
  show (0 * 32 + d.val) * 32 + e.val = d.val * 32 + e.val
  omega

/-- The sum over one channel of what is read of the arrays. -/
theorem tot_ld (n : ℕ) (hn : n < 16) (h1 : ∀ a, (![n, 0, 0] : Fin 3 → ℕ) a + S1x32x512.size a ≤ S16x32x512.size a)
    (h2 : ∀ a, (![32 * n, 0] : Fin 2 → ℕ) a + S32x1.size a ≤ S512x1.size a)
    (x3 : FVec Ideal S16x32x512 .f32) (x1 : FVec Ideal S512x1 .f32) :
    tot (View.ld (Val := Elt Ideal) (e' := .f32) x3 (Rect.unit ![n, 0, 0] S1x32x512.size h1))
        (View.ld (Val := Elt Ideal) (e' := .f32) x1 (Rect.unit ![32 * n, 0] S32x1.size h2))
      = ∑ k : Fin 512, ∑ d : Fin 32, x3 (ix3 ⟨n, hn⟩ d k) * x1 (ix2 (feat ⟨n, hn⟩ d) 0) := by
  rw [tot_apply]
  refine Finset.sum_congr rfl fun k _ => Finset.sum_congr rfl fun d _ =>
    congrArg₂ (· * ·) (congrArg x3 ?_) (congrArg x1 (Shape.idx_ext₂ ?_ ?_))
  · funext a; apply Fin.ext
    match a with
    | ⟨0, _⟩ => show n + 1 * 0 = n; omega
    | ⟨1, _⟩ => show 0 + 1 * d.val = d.val; omega
    | ⟨2, _⟩ => show 0 + 1 * k.val = k.val; omega
  · show 32 * n + 1 * d.val = 32 * n + d.val; omega
  · rfl

/-- The group a channel is in. -/
def grp (n : Fin 16) : Fin 4 := ⟨n.val / 4, by omega⟩
/-- Feature `d` of a channel, within its group. -/
def loc (n : Fin 16) (d : Fin 32) : Fin 128 := ⟨32 * (n.val % 4) + d.val, by omega⟩

/-- The sum of squares over one channel of what is read of the arrays. -/
theorem tot2_ld (n : ℕ) (hn : n < 16) (h1 : ∀ a, (![n, 0, 0] : Fin 3 → ℕ) a + S1x32x512.size a ≤ S16x32x512.size a)
    (h2 : ∀ a, (![n / 4, 32 * (n % 4), 32 * (n % 4)] : Fin 3 → ℕ) a + S1x32x32.size a ≤ S4x128x128.size a)
    (x3 : FVec Ideal S16x32x512 .f32) (x2 : FVec Ideal S4x128x128 .f32) :
    tot2 (View.ld (Val := Elt Ideal) (e' := .f32) x3 (Rect.unit ![n, 0, 0] S1x32x512.size h1))
        (View.ld (Val := Elt Ideal) (e' := .f32) x2 (Rect.unit ![n / 4, 32 * (n % 4), 32 * (n % 4)] S1x32x32.size h2))
      = ∑ d : Fin 32, ∑ k : Fin 512, (∑ e : Fin 32, x2 (ix3 (grp ⟨n, hn⟩) (loc ⟨n, hn⟩ d) (loc ⟨n, hn⟩ e))
          * x3 (ix3 ⟨n, hn⟩ e k)) * x3 (ix3 ⟨n, hn⟩ d k) := by
  rw [tot2_apply]
  have hw : ∀ (d : Fin 32) (k : Fin 512), View.ld (Val := Elt Ideal) (e' := .f32) x3 (Rect.unit ![n, 0, 0] S1x32x512.size h1) (ix3 (0 : Fin 1) d k)
      = x3 (ix3 ⟨n, hn⟩ d k) := fun d k => by
    refine congrArg x3 ?_
    funext a; apply Fin.ext
    match a with
    | ⟨0, _⟩ => show n + 1 * 0 = n; omega
    | ⟨1, _⟩ => show 0 + 1 * d.val = d.val; omega
    | ⟨2, _⟩ => show 0 + 1 * k.val = k.val; omega
  refine Finset.sum_congr rfl fun d _ => Finset.sum_congr rfl fun k _ =>
    congrArg₂ (· * ·) (Finset.sum_congr rfl fun e _ => congrArg₂ (· * ·) (congrArg x2 ?_) (hw e k)) (hw d k)
  funext a; apply Fin.ext
  match a with
  | ⟨0, _⟩ => show n / 4 + 1 * 0 = n / 4; omega
  | ⟨1, _⟩ => show 32 * (n % 4) + 1 * d.val = 32 * (n % 4) + d.val; omega
  | ⟨2, _⟩ => show 32 * (n % 4) + 1 * e.val = 32 * (n % 4) + e.val; omega

/-- The sixteen sums. -/
theorem tots (x1 : FVec Ideal S512x1 .f32) (x3 : FVec Ideal S16x32x512 .f32) (n : Fin 16) :
    (![tot (View.ld (Val := Elt Ideal) (e' := .f32) x3 r1_1) (View.ld (Val := Elt Ideal) (e' := .f32) x1 r1_2), tot (View.ld (Val := Elt Ideal) (e' := .f32) x3 r1_4) (View.ld (Val := Elt Ideal) (e' := .f32) x1 r1_5), tot (View.ld (Val := Elt Ideal) (e' := .f32) x3 r1_7) (View.ld (Val := Elt Ideal) (e' := .f32) x1 r1_8), tot (View.ld (Val := Elt Ideal) (e' := .f32) x3 r1_10) (View.ld (Val := Elt Ideal) (e' := .f32) x1 r1_11), tot (View.ld (Val := Elt Ideal) (e' := .f32) x3 r1_13) (View.ld (Val := Elt Ideal) (e' := .f32) x1 r1_14), tot (View.ld (Val := Elt Ideal) (e' := .f32) x3 r1_16) (View.ld (Val := Elt Ideal) (e' := .f32) x1 r1_17), tot (View.ld (Val := Elt Ideal) (e' := .f32) x3 r1_19) (View.ld (Val := Elt Ideal) (e' := .f32) x1 r1_20), tot (View.ld (Val := Elt Ideal) (e' := .f32) x3 r1_22) (View.ld (Val := Elt Ideal) (e' := .f32) x1 r1_23), tot (View.ld (Val := Elt Ideal) (e' := .f32) x3 r1_25) (View.ld (Val := Elt Ideal) (e' := .f32) x1 r1_26), tot (View.ld (Val := Elt Ideal) (e' := .f32) x3 r1_28) (View.ld (Val := Elt Ideal) (e' := .f32) x1 r1_29), tot (View.ld (Val := Elt Ideal) (e' := .f32) x3 r1_31) (View.ld (Val := Elt Ideal) (e' := .f32) x1 r1_32), tot (View.ld (Val := Elt Ideal) (e' := .f32) x3 r1_34) (View.ld (Val := Elt Ideal) (e' := .f32) x1 r1_35), tot (View.ld (Val := Elt Ideal) (e' := .f32) x3 r1_37) (View.ld (Val := Elt Ideal) (e' := .f32) x1 r1_38), tot (View.ld (Val := Elt Ideal) (e' := .f32) x3 r1_40) (View.ld (Val := Elt Ideal) (e' := .f32) x1 r1_41), tot (View.ld (Val := Elt Ideal) (e' := .f32) x3 r1_43) (View.ld (Val := Elt Ideal) (e' := .f32) x1 r1_44), tot (View.ld (Val := Elt Ideal) (e' := .f32) x3 r1_46) (View.ld (Val := Elt Ideal) (e' := .f32) x1 r1_47)] : Fin 16 → EReal) n
      = ∑ k : Fin 512, ∑ d : Fin 32, x3 (ix3 n d k) * x1 (ix2 (feat n d) 0) :=
  match n with
  | ⟨0, h⟩ => tot_ld 0 h _ _ x3 x1
  | ⟨1, h⟩ => tot_ld 1 h _ _ x3 x1
  | ⟨2, h⟩ => tot_ld 2 h _ _ x3 x1
  | ⟨3, h⟩ => tot_ld 3 h _ _ x3 x1
  | ⟨4, h⟩ => tot_ld 4 h _ _ x3 x1
  | ⟨5, h⟩ => tot_ld 5 h _ _ x3 x1
  | ⟨6, h⟩ => tot_ld 6 h _ _ x3 x1
  | ⟨7, h⟩ => tot_ld 7 h _ _ x3 x1
  | ⟨8, h⟩ => tot_ld 8 h _ _ x3 x1
  | ⟨9, h⟩ => tot_ld 9 h _ _ x3 x1
  | ⟨10, h⟩ => tot_ld 10 h _ _ x3 x1
  | ⟨11, h⟩ => tot_ld 11 h _ _ x3 x1
  | ⟨12, h⟩ => tot_ld 12 h _ _ x3 x1
  | ⟨13, h⟩ => tot_ld 13 h _ _ x3 x1
  | ⟨14, h⟩ => tot_ld 14 h _ _ x3 x1
  | ⟨15, h⟩ => tot_ld 15 h _ _ x3 x1
  | ⟨n + 16, hn⟩ => absurd hn (by omega)

/-- The sixteen sums of squares. -/
theorem tots2 (x2 : FVec Ideal S4x128x128 .f32) (x3 : FVec Ideal S16x32x512 .f32) (n : Fin 16) :
    (![tot2 (View.ld (Val := Elt Ideal) (e' := .f32) x3 r1_1) (View.ld (Val := Elt Ideal) (e' := .f32) x2 r1_3), tot2 (View.ld (Val := Elt Ideal) (e' := .f32) x3 r1_4) (View.ld (Val := Elt Ideal) (e' := .f32) x2 r1_6), tot2 (View.ld (Val := Elt Ideal) (e' := .f32) x3 r1_7) (View.ld (Val := Elt Ideal) (e' := .f32) x2 r1_9), tot2 (View.ld (Val := Elt Ideal) (e' := .f32) x3 r1_10) (View.ld (Val := Elt Ideal) (e' := .f32) x2 r1_12), tot2 (View.ld (Val := Elt Ideal) (e' := .f32) x3 r1_13) (View.ld (Val := Elt Ideal) (e' := .f32) x2 r1_15), tot2 (View.ld (Val := Elt Ideal) (e' := .f32) x3 r1_16) (View.ld (Val := Elt Ideal) (e' := .f32) x2 r1_18), tot2 (View.ld (Val := Elt Ideal) (e' := .f32) x3 r1_19) (View.ld (Val := Elt Ideal) (e' := .f32) x2 r1_21), tot2 (View.ld (Val := Elt Ideal) (e' := .f32) x3 r1_22) (View.ld (Val := Elt Ideal) (e' := .f32) x2 r1_24), tot2 (View.ld (Val := Elt Ideal) (e' := .f32) x3 r1_25) (View.ld (Val := Elt Ideal) (e' := .f32) x2 r1_27), tot2 (View.ld (Val := Elt Ideal) (e' := .f32) x3 r1_28) (View.ld (Val := Elt Ideal) (e' := .f32) x2 r1_30), tot2 (View.ld (Val := Elt Ideal) (e' := .f32) x3 r1_31) (View.ld (Val := Elt Ideal) (e' := .f32) x2 r1_33), tot2 (View.ld (Val := Elt Ideal) (e' := .f32) x3 r1_34) (View.ld (Val := Elt Ideal) (e' := .f32) x2 r1_36), tot2 (View.ld (Val := Elt Ideal) (e' := .f32) x3 r1_37) (View.ld (Val := Elt Ideal) (e' := .f32) x2 r1_39), tot2 (View.ld (Val := Elt Ideal) (e' := .f32) x3 r1_40) (View.ld (Val := Elt Ideal) (e' := .f32) x2 r1_42), tot2 (View.ld (Val := Elt Ideal) (e' := .f32) x3 r1_43) (View.ld (Val := Elt Ideal) (e' := .f32) x2 r1_45), tot2 (View.ld (Val := Elt Ideal) (e' := .f32) x3 r1_46) (View.ld (Val := Elt Ideal) (e' := .f32) x2 r1_48)] : Fin 16 → EReal) n
      = ∑ d : Fin 32, ∑ k : Fin 512, (∑ e : Fin 32, x2 (ix3 (grp n) (loc n d) (loc n e)) * x3 (ix3 n e k)) * x3 (ix3 n d k) :=
  match n with
  | ⟨0, h⟩ => tot2_ld 0 h _ _ x3 x2
  | ⟨1, h⟩ => tot2_ld 1 h _ _ x3 x2
  | ⟨2, h⟩ => tot2_ld 2 h _ _ x3 x2
  | ⟨3, h⟩ => tot2_ld 3 h _ _ x3 x2
  | ⟨4, h⟩ => tot2_ld 4 h _ _ x3 x2
  | ⟨5, h⟩ => tot2_ld 5 h _ _ x3 x2
  | ⟨6, h⟩ => tot2_ld 6 h _ _ x3 x2
  | ⟨7, h⟩ => tot2_ld 7 h _ _ x3 x2
  | ⟨8, h⟩ => tot2_ld 8 h _ _ x3 x2
  | ⟨9, h⟩ => tot2_ld 9 h _ _ x3 x2
  | ⟨10, h⟩ => tot2_ld 10 h _ _ x3 x2
  | ⟨11, h⟩ => tot2_ld 11 h _ _ x3 x2
  | ⟨12, h⟩ => tot2_ld 12 h _ _ x3 x2
  | ⟨13, h⟩ => tot2_ld 13 h _ _ x3 x2
  | ⟨14, h⟩ => tot2_ld 14 h _ _ x3 x2
  | ⟨15, h⟩ => tot2_ld 15 h _ _ x3 x2
  | ⟨n + 16, hn⟩ => absurd hn (by omega)

end Cert.KernelIdeal.Totals

end
-- ==== Proof.Region1.lean ====
/-
  What the array of the second region holds when it is done, in terms of the arrays it reads.
-/
module

public import proofs.«01_k».proof.Proof.Totals
public import Idealize.ShloMosaic.Lib.Pipeline.ValueKit.Geometry
public import Idealize.ShloMosaic.Lib.Pipeline.ValueKit.Acc

@[expose] public section

set_option maxRecDepth 16384

noncomputable section

namespace Cert.KernelIdeal.Region1

open Idealize.ShloMosaic Idealize.ShloMosaic.TcCoe Idealize.ShloMosaic.Tactic Idealize.ShloMosaic.ValueIdx
open Idealize.ShloMosaic.Pipeline (Dat Cfg Window)
open Cert.KernelIdeal Cert.KernelIdeal.Gen Cert.KernelIdeal.Channel Cert.KernelIdeal.Totals
open scoped BigOperators

variable (V : (c : Dev nD) → (b : Ref sig .tc) → Buf (Elt Ideal) ((c : Thread nD τ).loc b))

theorem index_0 : ∀ t : Fin cfg1.N, win1_0.index t 0 = 0 ∧ win1_0.index t 1 = 0 :=
  (by decide +kernel : ∀ t : Fin grid1.N, win1_0.index t 0 = 0 ∧ win1_0.index t 1 = 0)
theorem index_1 : ∀ t : Fin cfg1.N, win1_1.index t 0 = 0 ∧ win1_1.index t 1 = 0 :=
  (by decide +kernel : ∀ t : Fin grid1.N, win1_1.index t 0 = 0 ∧ win1_1.index t 1 = 0)
theorem index_2 : ∀ t : Fin cfg1.N, win1_2.index t 0 = 0 ∧ win1_2.index t 1 = 0 ∧ win1_2.index t 2 = 0 :=
  (by decide +kernel : ∀ t : Fin grid1.N, win1_2.index t 0 = 0 ∧ win1_2.index t 1 = 0 ∧ win1_2.index t 2 = 0)
theorem index_3 : ∀ t : Fin cfg1.N, win1_3.index t 0 = 0 ∧ win1_3.index t 1 = 0 ∧ win1_3.index t 2 = 0 :=
  (by decide +kernel : ∀ t : Fin grid1.N, win1_3.index t 0 = 0 ∧ win1_3.index t 1 = 0 ∧ win1_3.index t 2 = 0)
theorem index_4 : ∀ t : Fin cfg1.N, win1_4.index t 0 = 0 ∧ win1_4.index t 1 = 0 :=
  (by decide +kernel : ∀ t : Fin grid1.N, win1_4.index t 0 = 0 ∧ win1_4.index t 1 = 0)
theorem index_5 : ∀ t : Fin cfg1.N, win1_5.index t 0 = 0 ∧ win1_5.index t 1 = 0 :=
  (by decide +kernel : ∀ t : Fin grid1.N, win1_5.index t 0 = 0 ∧ win1_5.index t 1 = 0)
theorem index_6 : ∀ t : Fin cfg1.N, win1_6.index t 0 = 0 ∧ win1_6.index t 1 = 0 :=
  (by decide +kernel : ∀ t : Fin grid1.N, win1_6.index t 0 = 0 ∧ win1_6.index t 1 = 0)
theorem index_7 : ∀ t : Fin cfg1.N, win1_7.index t 0 = 0 ∧ win1_7.index t 1 = 0 :=
  (by decide +kernel : ∀ t : Fin grid1.N, win1_7.index t 0 = 0 ∧ win1_7.index t 1 = 0)

/-- The block of the largest responses: the whole array. -/
theorem blk_0 (c : Dev nD) (t : Fin cfg1.N) : (iblk1 V c 0 t : FVec Ideal S16x16384 .f32) = V c main_v3_1 := by
  funext y
  obtain ⟨p, q, rfl⟩ : ∃ (p : Fin 16) (q : Fin 16384), y = ix2 p q := ⟨_, _, eq_ix2 y⟩
  unfold iblk1
  rw [View.read_apply]
  show V c main_v3_1 _ = V c main_v3_1 _
  congr 1
  obtain ⟨h0, h1⟩ := index_0 t
  funext x; apply Fin.ext
  match x with
  | ⟨0, _⟩ => show win1_0.index t 0 * 16 + 1 * p.val = p.val; rw [h0]; omega
  | ⟨1, _⟩ => show win1_0.index t 1 * 16384 + 1 * q.val = q.val; rw [h1]; omega

/-- The block of the sums: the whole array. -/
theorem blk_1 (c : Dev nD) (t : Fin cfg1.N) : (iblk1 V c 1 t : FVec Ideal S512x1 .f32) = V c main_v3_2 := by
  funext y
  obtain ⟨p, q, rfl⟩ : ∃ (p : Fin 512) (q : Fin 1), y = ix2 p q := ⟨_, _, eq_ix2 y⟩
  unfold iblk1
  rw [View.read_apply]
  show V c main_v3_2 _ = V c main_v3_2 _
  congr 1
  obtain ⟨h0, h1⟩ := index_1 t
  funext x; apply Fin.ext
  match x with
  | ⟨0, _⟩ => show win1_1.index t 0 * 512 + 1 * p.val = p.val; rw [h0]; omega
  | ⟨1, _⟩ => show win1_1.index t 1 * 1 + 1 * q.val = q.val; rw [h1]; omega

/-- The block of the sums of products: the whole array. -/
theorem blk_2 (c : Dev nD) (t : Fin cfg1.N) : (iblk1 V c 2 t : FVec Ideal S4x128x128 .f32) = V c main_v3_3 := by
  funext y
  obtain ⟨p, q, r, rfl⟩ : ∃ (p : Fin 4) (q : Fin 128) (r : Fin 128), y = ix3 p q r := ⟨_, _, _, eq_ix3 y⟩
  unfold iblk1
  rw [View.read_apply]
  show V c main_v3_3 _ = V c main_v3_3 _
  congr 1
  obtain ⟨h0, h1, h2⟩ := index_2 t
  funext x; apply Fin.ext
  match x with
  | ⟨0, _⟩ => show win1_2.index t 0 * 4 + 1 * p.val = p.val; rw [h0]; omega
  | ⟨1, _⟩ => show win1_2.index t 1 * 128 + 1 * q.val = q.val; rw [h1]; omega
  | ⟨2, _⟩ => show win1_2.index t 2 * 128 + 1 * r.val = r.val; rw [h2]; omega

/-- The block of the centroids: the whole array. -/
theorem blk_3 (c : Dev nD) (t : Fin cfg1.N) : (iblk1 V c 3 t : FVec Ideal S16x32x512 .f32) = V c main_v2 := by
  funext y
  obtain ⟨p, q, r, rfl⟩ : ∃ (p : Fin 16) (q : Fin 32) (r : Fin 512), y = ix3 p q r := ⟨_, _, _, eq_ix3 y⟩
  unfold iblk1
  rw [View.read_apply]
  show V c main_v2 _ = V c main_v2 _
  congr 1
  obtain ⟨h0, h1, h2⟩ := index_3 t
  funext x; apply Fin.ext
  match x with
  | ⟨0, _⟩ => show win1_3.index t 0 * 16 + 1 * p.val = p.val; rw [h0]; omega
  | ⟨1, _⟩ => show win1_3.index t 1 * 32 + 1 * q.val = q.val; rw [h1]; omega
  | ⟨2, _⟩ => show win1_3.index t 2 * 512 + 1 * r.val = r.val; rw [h2]; omega

/-- The block of the weights: the whole array. -/
theorem blk_4 (c : Dev nD) (t : Fin cfg1.N) : (iblk1 V c 4 t : FVec Ideal S16x1 .f32) = V c main_v5 := by
  funext y
  obtain ⟨p, q, rfl⟩ : ∃ (p : Fin 16) (q : Fin 1), y = ix2 p q := ⟨_, _, eq_ix2 y⟩
  unfold iblk1
  rw [View.read_apply]
  show V c main_v5 _ = V c main_v5 _
  congr 1
  obtain ⟨h0, h1⟩ := index_4 t
  funext x; apply Fin.ext
  match x with
  | ⟨0, _⟩ => show win1_4.index t 0 * 16 + 1 * p.val = p.val; rw [h0]; omega
  | ⟨1, _⟩ => show win1_4.index t 1 * 1 + 1 * q.val = q.val; rw [h1]; omega

/-- The block of the offsets: the whole array. -/
theorem blk_5 (c : Dev nD) (t : Fin cfg1.N) : (iblk1 V c 5 t : FVec Ideal S16x1 .f32) = V c main_v6 := by
  funext y
  obtain ⟨p, q, rfl⟩ : ∃ (p : Fin 16) (q : Fin 1), y = ix2 p q := ⟨_, _, eq_ix2 y⟩
  unfold iblk1
  rw [View.read_apply]
  show V c main_v6 _ = V c main_v6 _
  congr 1
  obtain ⟨h0, h1⟩ := index_5 t
  funext x; apply Fin.ext
  match x with
  | ⟨0, _⟩ => show win1_5.index t 0 * 16 + 1 * p.val = p.val; rw [h0]; omega
  | ⟨1, _⟩ => show win1_5.index t 1 * 1 + 1 * q.val = q.val; rw [h1]; omega

/-- The block of the number of responses: the whole array. -/
theorem blk_6 (c : Dev nD) (t : Fin cfg1.N) : (iblk1 V c 6 t : FVec Ideal S1x1 .f32) = V c main_v4 := by
  funext y
  obtain ⟨p, q, rfl⟩ : ∃ (p : Fin 1) (q : Fin 1), y = ix2 p q := ⟨_, _, eq_ix2 y⟩
  unfold iblk1
  rw [View.read_apply]
  show V c main_v4 _ = V c main_v4 _
  congr 1
  obtain ⟨h0, h1⟩ := index_6 t
  funext x; apply Fin.ext
  match x with
  | ⟨0, _⟩ => show win1_6.index t 0 * 1 + 1 * p.val = p.val; rw [h0]; omega
  | ⟨1, _⟩ => show win1_6.index t 1 * 1 + 1 * q.val = q.val; rw [h1]; omega

/-- The array the second region leaves. -/
def result (raw : FVec Ideal S16x16384 .f32) (xs : FVec Ideal S512x1 .f32) (gx : FVec Ideal S4x128x128 .f32)
    (w : FVec Ideal S16x32x512 .f32) (g o : FVec Ideal S16x1 .f32) (n : FVec Ideal S1x1 .f32) : FVec Ideal S16x16384 .f32 :=
  out1_7 (F := Ideal) raw xs gx w g o n

/-- The array the second region leaves, from the arrays it finds. -/
theorem arr (c : Dev nD) : (dat1 V c).arrAt 7 cfg1.N
    = result (V c main_v3_1) (V c main_v3_2) (V c main_v3_3) (V c main_v2) (V c main_v5) (V c main_v6) (V c main_v4) := by
  refine (dat1 V c).arrAt_eq_of_covers 7 _ (by decide +kernel) fun t hf y => ?_
  obtain ⟨n, b, rfl⟩ : ∃ (n : Fin 16) (b : Fin 16384), y = ix2 n b := ⟨_, _, eq_ix2 y⟩
  rw [after1_7]
  obtain ⟨h0, h1⟩ := index_7 t
  have e : (((cfg1.win 7).blk t).view.emb (ix2 n b) : S16x16384.Idx) = ix2 n b := by
    funext x; apply Fin.ext
    match x with
    | ⟨0, _⟩ => show win1_7.index t 0 * 16 + 1 * n.val = n.val; rw [h0]; omega
    | ⟨1, _⟩ => show win1_7.index t 1 * 16384 + 1 * b.val = b.val; rw [h1]; omega
  rw [e]
  rw [blk_0, blk_1, blk_2, blk_3, blk_4, blk_5, blk_6]
  unfold result
  generalize out1_7 (F := Ideal) (V c main_v3_1) (V c main_v3_2) (V c main_v3_3) (V c main_v2) (V c main_v5) (V c main_v6) (V c main_v4) = z
  rfl

/-- A channel's sum of all responses. -/
def sum1 (w : FVec Ideal S16x32x512 .f32) (xs : FVec Ideal S512x1 .f32) (n : Fin 16) : EReal :=
  ∑ k : Fin 512, ∑ d : Fin 32, w (ix3 n d k) * xs (ix2 (feat n d) 0)

/-- A channel's sum of all squared responses. -/
def sum2 (w : FVec Ideal S16x32x512 .f32) (gx : FVec Ideal S4x128x128 .f32) (n : Fin 16) : EReal :=
  ∑ d : Fin 32, ∑ k : Fin 512, (∑ e : Fin 32, gx (ix3 (grp n) (loc n d) (loc n e)) * w (ix3 n e k)) * w (ix3 n d k)

/-- The factor a channel's largest responses are scaled by. -/
def factor (s1 s2 n g : EReal) : EReal :=
  Ideal.div g (Ideal.sqrt (Ideal.div s2 n - Ideal.div s1 n * Ideal.div s1 n + Ideal.ofBits .f32 0x3727C5AC#32))

/-- The array at one channel and one example. -/
theorem result_apply (raw : FVec Ideal S16x16384 .f32) (xs : FVec Ideal S512x1 .f32) (gx : FVec Ideal S4x128x128 .f32)
    (w : FVec Ideal S16x32x512 .f32) (g o : FVec Ideal S16x1 .f32) (num : FVec Ideal S1x1 .f32) (n : Fin 16) (b : Fin 16384) :
    result raw xs gx w g o num (ix2 n b)
      = raw (ix2 n b) * factor (sum1 w xs n) (sum2 w gx n) (num (ix2 0 0)) (g (ix2 n 0))
        + (o (ix2 n 0) - Ideal.div (sum1 w xs n) (num (ix2 0 0)) * factor (sum1 w xs n) (sum2 w gx n) (num (ix2 0 0)) (g (ix2 n 0))) := by
  unfold result
  rw [out_eq]
  generalize hf1 : column _ = f1
  generalize hf2 : column _ = f2
  have e1 : f1 (ix2 n 0) = sum1 w xs n := by rw [← hf1, column_apply, tots]; rfl
  have e2 : f2 (ix2 n 0) = sum2 w gx n := by rw [← hf2, column_apply, tots2]; rfl
  clear hf1 hf2
  have hb : ∀ v : FVec Ideal S16x1 .f32, broadcastTo S16x16384 v broadcasts_S16x1_S16x16384 (ix2 n b) = v (ix2 n 0) := fun v => by
    refine broadcastTo_apply _ _ _ _ fun a => ?_
    match a with
    | ⟨0, _⟩ => rfl
    | ⟨1, _⟩ => rfl
  have hm : mean (num (ix2 0 0)) f1 (ix2 n 0) = Ideal.div (sum1 w xs n) (num (ix2 0 0)) := by
    rw [← e1]; rfl
  have hs : scale (num (ix2 0 0)) f1 f2 g (ix2 n 0) = factor (sum1 w xs n) (sum2 w gx n) (num (ix2 0 0)) (g (ix2 n 0)) := by
    rw [← e1, ← e2]; rfl
  unfold final
  rw [addf_apply, mulf_apply, hb, hb, subf_apply, mulf_apply, hm, hs]

end Cert.KernelIdeal.Region1

end
-- ==== Proof.RefCode.lean ====
/-
  What the reference takes of one example's and one channel's 512 values: the largest of them, and the position of the
  first that has it.
-/
module

public import proofs.«01_k».proof.Proof.RefRun
public import proofs.«01_k».proof.Proof.Argmax

@[expose] public section

set_option maxRecDepth 16384

noncomputable section

namespace Cert.ReferenceIdeal.Whole

open Idealize.ShloMosaic Idealize.ShloMosaic.ValueIdx
open Cert.ReferenceIdeal Cert.ReferenceIdeal.Gen
open Cert.KernelIdeal.Channel (First fold_max_of c0 cbot)

/-- A value with its position. -/
def entry (f : Fin 512 → EReal) (k : Fin 512) : Ideal .f32 × BitVec 32 := (f k, BitVec.ofNat 32 k.val)

/-- Positions compare as words as they do as numbers. -/
theorem slt_iff (a b : Fin 512) : IntOp.cmpi .slt (BitVec.ofNat 32 a.val) (BitVec.ofNat 32 b.val) = if a < b then 1#1 else 0#1 := by
  have ha := a.isLt
  have hb := b.isLt
  have h1 : (BitVec.ofNat 32 a.val).toInt = (a.val : ℤ) := by
    rw [BitVec.toInt_eq_toNat_cond, BitVec.toNat_ofNat]; split <;> omega
  have h2 : (BitVec.ofNat 32 b.val).toInt = (b.val : ℤ) := by
    rw [BitVec.toInt_eq_toNat_cond, BitVec.toNat_ofNat]; split <;> omega
  show BitVec.ofBool (BitVec.slt _ _) = _
  unfold BitVec.slt
  rw [h1, h2]
  by_cases h : a < b
  · rw [if_pos h]
    have : (a.val : ℤ) < (b.val : ℤ) := by exact_mod_cast h
    rw [decide_eq_true this]; rfl
  · rw [if_neg h]
    have : ¬(a.val : ℤ) < (b.val : ℤ) := by exact_mod_cast h
    rw [decide_eq_false this]; rfl

/-- One step keeps the larger value, and the earlier position of two equal ones. -/
theorem step (f : Fin 512 → EReal) (a b : Fin 512) :
    reducer_argmax_f32_i32 (F := Ideal) (entry f a) (entry f b)
      = if f b < f a ∨ (f a = f b ∧ a < b) then entry f a else entry f b := by
  unfold reducer_argmax_f32_i32 entry
  dsimp only
  rw [slt_iff, Ideal.cmpf_def, Ideal.cmpf_def, Ideal.cmpf_def]
  simp only [Ideal.cmp]
  rcases lt_trichotomy (f b) (f a) with h | h | h
  · have h1 : ¬f a = f b := fun e => by rw [e] at h; exact lt_irrefl _ h
    simp [h, h1, IntOp.ori, IntOp.andi, Scalar.select]
  · by_cases h2 : a < b
    · simp [h, h2, IntOp.ori, IntOp.andi, Scalar.select]
    · simp [h, h2, IntOp.ori, IntOp.andi, Scalar.select]
  · have h1 : ¬f a = f b := fun e => by rw [e] at h; exact lt_irrefl _ h
    simp [h, h1, not_lt.mpr h.le, IntOp.ori, IntOp.andi, Scalar.select]

/-- The first step takes the first value there is. -/
theorem step_init (f : Fin 512 → EReal) (b : Fin 512) (hb : f b ≠ ⊥) :
    reducer_argmax_f32_i32 (F := Ideal) ((⊥ : EReal), 0#32) (entry f b) = entry f b := by
  unfold reducer_argmax_f32_i32 entry
  dsimp only
  rw [Ideal.cmpf_def, Ideal.cmpf_def, Ideal.cmpf_def]
  simp only [Ideal.cmp]
  simp [hb.symm, IntOp.ori, IntOp.andi, Scalar.select]

/-- Steps over a list of positions: one of them is left, none of them has a larger value, and none of them that has the
    same value is earlier. -/
theorem steps (f : Fin 512 → EReal) (ks : List (Fin 512)) (k : Fin 512) :
    ∃ q ∈ k :: ks, (ks.map (entry f)).foldl (reducer_argmax_f32_i32 (F := Ideal)) (entry f k) = entry f q
      ∧ ∀ p ∈ k :: ks, f p < f q ∨ (f p = f q ∧ q ≤ p) := by
  induction ks generalizing k with
  | nil => exact ⟨k, by simp, rfl, fun p hp => by simp at hp; subst hp; exact Or.inr ⟨rfl, le_rfl⟩⟩
  | cons a ks ih =>
    rw [List.map_cons, List.foldl_cons, step]
    by_cases h : f a < f k ∨ (f k = f a ∧ k < a)
    · rw [if_pos h]
      obtain ⟨q, hq, he, hm⟩ := ih k
      refine ⟨q, ?_, he, fun p hp => ?_⟩
      · rcases List.mem_cons.1 hq with e | e
        · exact List.mem_cons.2 (Or.inl e)
        · exact List.mem_cons.2 (Or.inr (List.mem_cons.2 (Or.inr e)))
      · rcases List.mem_cons.1 hp with e | e
        · exact hm p (List.mem_cons.2 (Or.inl e))
        · rcases List.mem_cons.1 e with e | e
          · subst e
            have hk := hm k (List.mem_cons.2 (Or.inl rfl))
            rcases h with h | ⟨h, h'⟩
            · rcases hk with hk | ⟨hk, -⟩
              · exact Or.inl (h.trans hk)
              · exact Or.inl (hk ▸ h)
            · rcases hk with hk | ⟨hk, hk'⟩
              · exact Or.inl (h ▸ hk)
              · exact Or.inr ⟨h ▸ hk, hk'.trans h'.le⟩
          · exact hm p (List.mem_cons.2 (Or.inr e))
    · rw [if_neg h]
      obtain ⟨q, hq, he, hm⟩ := ih a
      refine ⟨q, List.mem_cons.2 (Or.inr hq), he, fun p hp => ?_⟩
      rcases List.mem_cons.1 hp with e | e
      · subst e
        have ha := hm a (List.mem_cons.2 (Or.inl rfl))
        rw [not_or, not_lt, not_and, not_lt] at h
        rcases h.1.lt_or_eq with h1 | h1
        · rcases ha with ha | ⟨ha, -⟩
          · exact Or.inl (h1.trans ha)
          · exact Or.inl (ha ▸ h1)
        · have h2 := h.2 h1
          rcases ha with ha | ⟨ha, ha'⟩
          · exact Or.inl (h1 ▸ ha)
          · exact Or.inr ⟨h1.trans ha, ha'.trans h2⟩
      · exact hm p e

/-- Steps over a list that has every position leave the first largest. -/
theorem steps_all (f : Fin 512 → EReal) (hf : ∀ k, f k ≠ ⊥) (ks : List (Fin 512)) (hall : ∀ k, k ∈ ks) (k : Fin 512)
    (hk : First f k) : (ks.map (entry f)).foldl (reducer_argmax_f32_i32 (F := Ideal)) ((⊥ : EReal), 0#32) = entry f k := by
  cases ks with
  | nil => exact absurd (hall k) (by simp)
  | cons a ks =>
    rw [List.map_cons, List.foldl_cons, step_init f a (hf a)]
    obtain ⟨q, -, he, hm⟩ := steps f ks a
    have hqk : q = k := by
      rcases hm k (hall k) with h | ⟨h, h'⟩
      · exact absurd (hk.1 q) (not_le.mpr h)
      · refine le_antisymm h' (not_lt.mp fun hlt => ?_)
        exact absurd (hk.2 q hlt) (by rw [h]; exact lt_irrefl _)
    rw [he, hqk]

/-- What the last axis' removal keeps of an index. -/
theorem drop_eq (i : S16384x16x512.Idx) (b : Fin 16384) (n : Fin 16) :
    reducesTo_S16384x16x512_S16384x16_d2.drop i = ix2 b n ↔ i 0 = b ∧ i 1 = n := by
  have h0 : (reducesTo_S16384x16x512_S16384x16_d2.drop i : S16384x16.Idx) 0 = i 0 := by apply Fin.ext; rfl
  have h1 : (reducesTo_S16384x16x512_S16384x16_d2.drop i : S16384x16.Idx) 1 = i 1 := by apply Fin.ext; rfl
  constructor
  · intro h
    rw [h] at h0 h1
    exact ⟨h0.symm, h1.symm⟩
  · rintro ⟨h, h'⟩
    rw [eq_ix2 (reducesTo_S16384x16x512_S16384x16_d2.drop i : S16384x16.Idx), h0, h1, h, h']
    rfl

/-- An index' position on the last axis. -/
def last (i : S16384x16x512.Idx) : Fin 512 := i 2

/-- A reduction with positions folds its body over a list of the entries that go to the index asked for. -/
theorem argReduce_list {s t u : Shape} {axes : List (Fin s.rank)}
    (f : Ideal .f32 × BitVec 32 → Ideal .f32 × BitVec 32 → Ideal .f32 × BitVec 32) (y : FVec Ideal s .f32) (z : s.Idx → BitVec 32)
    (iy : FVec Ideal u .f32) (iz : u.Idx → BitVec 32) (h : s.ReducesTo axes t) (hu : 0 < u.numel) (j : t.Idx) :
    ∃ L : List s.Idx, (∀ i, i ∈ L ↔ h.drop i = j)
      ∧ Host.argReduce f y z iy iz h hu j
        = (L.map fun i => (y i, z i)).foldl f (iy (Shape.Idx.first hu), iz (Shape.Idx.first hu)) := by
  refine ⟨((List.finRange s.numel).filter fun n => h.drop (s.rowMajor.symm n) = j).map fun n => s.rowMajor.symm n, fun i => ?_, ?_⟩
  · rw [List.mem_map]
    constructor
    · rintro ⟨q, hq, rfl⟩
      exact of_decide_eq_true (List.mem_filter.1 hq).2
    · intro hi
      refine ⟨s.rowMajor i, List.mem_filter.2 ⟨List.mem_finRange _, decide_eq_true ?_⟩, Equiv.symm_apply_apply _ _⟩
      rw [Equiv.symm_apply_apply]; exact hi
  · rw [Ideal.argReduce_eq_reduce2, Host.reduce2_eq_foldl_fiber, Host.argReduceFiber, List.map_map]
    rfl

/-- A reduction by the maximum from the least value, at an index where one entry is the largest of those that go there. -/
theorem reduce_max {s t u : Shape} {axes : List (Fin s.rank)} (y : FVec Ideal s .f32) (iy : FVec Ideal u .f32)
    (h : s.ReducesTo axes t) (hu : 0 < u.numel) (j : t.Idx) (hb : iy (Shape.Idx.first hu) = (⊥ : EReal)) (k : s.Idx)
    (hk : h.drop k = j) (hle : ∀ i, h.drop i = j → y i ≤ y k) :
    Host.reduce FloatOps.maximumf y iy h hu j = y k := by
  rw [Host.reduce_eq_fold, hb]
  exact le_antisymm ((Finset.fold_max_le (b := (⊥ : EReal)) (f := y) (y k)).2
      ⟨bot_le, fun i hi => hle i (Finset.mem_filter.1 hi).2⟩)
    ((Finset.le_fold_max (b := (⊥ : EReal)) (f := y) (y k)).2
      (Or.inr ⟨k, Finset.mem_filter.2 ⟨Finset.mem_univ _, hk⟩, le_rfl⟩))

/-- The second entry of a pair that a function takes. -/
theorem snd_of {ι α β : Type} {P : ι → α × β} {j : ι} {p : α × β} (h : P j = p) : (fun j => (P j).2) j = p.2 := congrArg Prod.snd h

/-- The reference's code of an example and a channel is the position of the first largest value. -/
theorem code_apply (y : FVec Ideal S16384x16x512 .f32) (b : Fin 16384) (n : Fin 16) (k : Fin 512)
    (hf : ∀ k, y (ix3 b n k) ≠ ⊥) (hk : First (fun k => y (ix3 b n k)) k) :
    code (F := Ideal) y (ix2 b n) = BitVec.ofNat 32 k.val := by
  obtain ⟨L, hL, e⟩ := argReduce_list (reducer_argmax_f32_i32 (F := Ideal)) y (iotaInDim S16384x16x512 32 2)
    (constant S_ .f32 0xFF800000#32) (constantI S_ 32 0#32) reducesTo_S16384x16x512_S16384x16_d2 h_S_ (ix2 b n)
  have hl : (L.map fun i => ((y i, iotaInDim S16384x16x512 32 2 i) : Ideal .f32 × BitVec 32))
      = (L.map last).map (entry fun k => y (ix3 b n k)) := by
    rw [List.map_map]
    refine List.map_congr_left fun i hq => ?_
    have hd := (drop_eq i b n).1 ((hL i).1 hq)
    have hi : i = ix3 b n (last i) := by
      rw [← hd.1, ← hd.2]
      exact eq_ix3 i
    show (y i, BitVec.ofNat 32 (last i).val) = (y (ix3 b n (last i)), BitVec.ofNat 32 (last i).val)
    rw [← hi]
  have hb : (constant S_ .f32 0xFF800000#32 : FVec Ideal S_ .f32) (Shape.Idx.first h_S_) = (⊥ : EReal) := cbot
  have hz : constantI S_ 32 0#32 (Shape.Idx.first h_S_) = 0#32 := rfl
  rw [hl, hb, hz] at e
  have e' := e.trans (steps_all (fun k => y (ix3 b n k)) hf (L.map last)
    (fun q => List.mem_map.2 ⟨ix3 b n q, (hL _).2 ((drop_eq _ b n).2 ⟨rfl, rfl⟩), rfl⟩) k hk)
  have hs := (snd_of (P := Host.argReduce (reducer_argmax_f32_i32 (F := Ideal)) y (iotaInDim S16384x16x512 32 2)
      (constant S_ .f32 0xFF800000#32) (constantI S_ 32 0#32) reducesTo_S16384x16x512_S16384x16_d2 h_S_) e')
  have hh : code (F := Ideal) y = fun j => (Host.argReduce (reducer_argmax_f32_i32 (F := Ideal)) y (iotaInDim S16384x16x512 32 2)
      (constant S_ .f32 0xFF800000#32) (constantI S_ 32 0#32) reducesTo_S16384x16x512_S16384x16_d2 h_S_ j).2 := by
    delta code
    with_reducible rfl
  exact (congrFun hh (ix2 b n)).trans hs

/-- The reference's largest value of an example and a channel. -/
theorem best_apply (y : FVec Ideal S16384x16x512 .f32) (b : Fin 16384) (n : Fin 16) (k : Fin 512)
    (hk : First (fun k => y (ix3 b n k)) k) : best (F := Ideal) y (ix2 b n) = y (ix3 b n k) := by
  have hb : (constant S_ .f32 0xFF800000#32 : FVec Ideal S_ .f32) (Shape.Idx.first h_S_) = (⊥ : EReal) := cbot
  refine reduce_max y (constant S_ .f32 0xFF800000#32) reducesTo_S16384x16x512_S16384x16_d2 h_S_ (ix2 b n) hb (ix3 b n k)
    ((drop_eq _ b n).2 ⟨rfl, rfl⟩) fun i hi => ?_
  have hd := (drop_eq i b n).1 hi
  have e : i = ix3 b n (last i) := by
    rw [← hd.1, ← hd.2]
    exact eq_ix3 i
  rw [e]
  exact hk.1 (last i)

end Cert.ReferenceIdeal.Whole

end
-- ==== Proof.Numbers.lean ====
/-
  The mathematics on real numbers: the sums over all examples and centroids from the sums over the examples alone; the
  mean of squares less the squared mean is the mean squared distance to the mean; scaling and shifting.
-/
module

public import Idealize.ShloMosaic.Lib.ValueIdx

@[expose] public section

namespace Cert.Numbers

open scoped BigOperators

/-- The sum of all responses, from the features' sums. -/
theorem sum_resp {B K D : Type} [Fintype B] [Fintype K] [Fintype D] (w : D → K → ℝ) (x : D → B → ℝ) :
    ∑ k : K, ∑ d : D, w d k * ∑ b : B, x d b = ∑ b : B, ∑ k : K, ∑ d : D, w d k * x d b := by
  simp only [Finset.mul_sum]
  rw [Finset.sum_comm (s := (Finset.univ : Finset B))]
  exact Finset.sum_congr rfl fun k _ => Finset.sum_comm

/-- The sum of all squared responses, from the features' products. -/
theorem sum_resp_sq {B K D : Type} [Fintype B] [Fintype K] [Fintype D] (w : D → K → ℝ) (x : D → B → ℝ) :
    ∑ d : D, ∑ k : K, (∑ e : D, (∑ b : B, x d b * x e b) * w e k) * w d k
      = ∑ b : B, ∑ k : K, (∑ d : D, w d k * x d b) * (∑ d : D, w d k * x d b) := by
  rw [Finset.sum_comm]
  rw [Finset.sum_comm (s := (Finset.univ : Finset B))]
  refine Finset.sum_congr rfl fun k _ => ?_
  have h : ∀ b, (∑ d : D, w d k * x d b) * (∑ d : D, w d k * x d b) = ∑ d : D, ∑ e : D, w d k * x d b * (w e k * x e b) :=
    fun b => Finset.sum_mul_sum _ _ _ _
  simp only [h]
  rw [Finset.sum_comm]
  refine Finset.sum_congr rfl fun d _ => ?_
  rw [Finset.sum_mul, Finset.sum_comm]
  refine Finset.sum_congr rfl fun e _ => ?_
  rw [Finset.sum_mul, Finset.sum_mul]
  exact Finset.sum_congr rfl fun b _ => by ring

/-- The mean squared distance to the mean is the mean of squares less the squared mean. -/
theorem variance {B K : Type} [Fintype B] [Fintype K] (r : B → K → ℝ) (n : ℝ) (hn : n ≠ 0)
    (hc : ∑ _b : B, ∑ _k : K, (1 : ℝ) = n) :
    (∑ b : B, ∑ k : K, (r b k - (∑ b : B, ∑ k : K, r b k) / n) * (r b k - (∑ b : B, ∑ k : K, r b k) / n)) / n
      = (∑ b : B, ∑ k : K, r b k * r b k) / n
        - ((∑ b : B, ∑ k : K, r b k) / n) * ((∑ b : B, ∑ k : K, r b k) / n) := by
  generalize hS : ∑ b : B, ∑ k : K, r b k = S
  have h : ∀ b k, (r b k - S / n) * (r b k - S / n) = r b k * r b k - 2 * (S / n) * r b k + (S / n) * (S / n) * 1 :=
    fun b k => by ring
  simp only [h, Finset.sum_add_distrib, Finset.sum_sub_distrib, ← Finset.mul_sum]
  rw [hc, hS]
  field_simp
  ring

/-- It is not negative. -/
theorem variance_nonneg {B K : Type} [Fintype B] [Fintype K] (r : B → K → ℝ) (n m : ℝ) (hn : 0 < n) :
    0 ≤ (∑ b : B, ∑ k : K, (r b k - m) * (r b k - m)) / n :=
  div_nonneg (Finset.sum_nonneg fun _ _ => Finset.sum_nonneg fun _ _ => mul_self_nonneg _) hn.le

/-- Scaling and shifting at once is subtracting the mean, dividing, scaling and shifting. -/
theorem affine (r m s g b : ℝ) : r * (g * (1 / s)) + (b - m * (g * (1 / s))) = (r - m) * (1 / s) * g + b := by ring

/-- And it keeps the order strictly. -/
theorem affine_lt (r r' m s g b : ℝ) (hs : 0 < s) (hg : 0 < g) (h : r < r') :
    (r - m) * (1 / s) * g + b < (r' - m) * (1 / s) * g + b := by
  have h1 : 0 < 1 / s := one_div_pos.mpr hs
  have : (r - m) * (1 / s) * g < (r' - m) * (1 / s) * g :=
    mul_lt_mul_of_pos_right (mul_lt_mul_of_pos_right (by linarith) h1) hg
  linarith

/-- A sum of real numbers among the extended reals. -/
theorem coe_sum {A : Type} [Fintype A] (f : A → ℝ) : ∑ a : A, ((f a : ℝ) : EReal) = ((∑ a : A, f a : ℝ) : EReal) := by
  classical
  refine Finset.induction_on (Finset.univ : Finset A) (by simp) fun a s ha ih => ?_
  rw [Finset.sum_insert ha, Finset.sum_insert ha, ih, EReal.coe_add]

end Cert.Numbers

end
-- ==== Proof.Constants.lean ====
/-
  The constants of the normalisation as real numbers, the mean and the variance of one channel's responses, and
  division and square root of the extended reals at real numbers.
-/
module

public import proofs.«01_k».proof.Proof.Numbers
public import Idealize.ShloMosaic.Lib.ValueIdx

@[expose] public section

noncomputable section

namespace Cert.Numbers

open Idealize.ShloMosaic
open scoped BigOperators

/-- The number of responses of one channel: 16384 examples times 512 centroids. -/
def num : ℝ := 8388608

/-- What is added to the variance. -/
def eps : ℝ := 10995116 / 2 ^ 40

/-- The mean of one channel's responses. -/
def mu (r : Fin 16384 → Fin 512 → ℝ) : ℝ := (∑ b, ∑ k, r b k) / num

/-- The variance of one channel's responses. -/
def va (r : Fin 16384 → Fin 512 → ℝ) : ℝ := (∑ b, ∑ k, (r b k - mu r) * (r b k - mu r)) / num

theorem num_pos : 0 < num := by unfold num; norm_num

theorem eps_pos : 0 < eps := by unfold eps; norm_num

/-- The variance is no less than zero. -/
theorem va_nonneg (r : Fin 16384 → Fin 512 → ℝ) : 0 ≤ va r := variance_nonneg r num (mu r) num_pos

/-- The root the responses are divided by is positive. -/
theorem root_pos (r : Fin 16384 → Fin 512 → ℝ) : 0 < Real.sqrt (va r + eps) :=
  Real.sqrt_pos.mpr (add_pos_of_nonneg_of_pos (va_nonneg r) eps_pos)

/-- The number of pairs of an example and a centroid. -/
theorem count_pairs : ∑ _b : Fin 16384, ∑ _k : Fin 512, (1 : ℝ) = num := by
  unfold num
  simp only [Finset.sum_const, Finset.card_univ, Fintype.card_fin, nsmul_eq_mul, mul_one]
  norm_num

/-- The variance is the mean of the squares less the square of the mean. -/
theorem va_eq (r : Fin 16384 → Fin 512 → ℝ) : va r = (∑ b, ∑ k, r b k * r b k) / num - mu r * mu r :=
  variance r num num_pos.ne' count_pairs

/-- The word of the number of responses. -/
theorem ofBits_num : Ideal.ofBits .f32 0x4B000000#32 = ((num : ℝ) : EReal) := by
  unfold num
  simp [Ideal.ofBits, Ideal.ieee, -EReal.coe_mul]

/-- The word of what is added to the variance. -/
theorem ofBits_eps : Ideal.ofBits .f32 0x3727C5AC#32 = ((eps : ℝ) : EReal) := by
  unfold eps
  simp [Ideal.ofBits, Ideal.ieee, -EReal.coe_mul]; norm_num

/-- The word of zero. -/
theorem ofBits_zero : Ideal.ofBits .f32 0x00000000#32 = ((0 : ℝ) : EReal) := by
  simp [Ideal.ofBits, Ideal.ieee]

/-- Division at real numbers. -/
theorem div_real (a b : ℝ) (hb : b ≠ 0) : Ideal.div (a : EReal) (b : EReal) = ((a / b : ℝ) : EReal) := by
  rw [Ideal.div_coe hb, ← EReal.coe_mul, mul_one_div]

/-- The square root at a real number that is not negative. -/
theorem sqrt_real (a : ℝ) (ha : 0 ≤ a) : Ideal.sqrt (a : EReal) = ((Real.sqrt a : ℝ) : EReal) := by
  rw [Ideal.sqrt_coe, if_neg (not_lt.mpr ha)]

end Cert.Numbers

end
-- ==== Proof.RefValue.lean ====
/-
  The reference's arrays at an index when the responses are real numbers: the responses themselves, each channel's mean
  and variance, and the normalised responses.
-/
module

public import proofs.«01_k».proof.Proof.RefRun
public import proofs.«01_k».proof.Proof.Constants
public import Idealize.ShloMosaic.Lib.IdealHost
public import Idealize.ShloMosaic.Lib.Pipeline.Value

@[expose] public section

set_option maxRecDepth 16384

noncomputable section

namespace Cert.ReferenceIdeal.Whole

open Idealize.ShloMosaic Idealize.ShloMosaic.ValueIdx
open Cert.ReferenceIdeal Cert.ReferenceIdeal.Gen
open Cert.Numbers (num eps mu va ofBits_num ofBits_eps ofBits_zero div_real sqrt_real num_pos eps_pos va_nonneg root_pos coe_sum)
open scoped BigOperators

/-- The response of centroid `k` of channel `n` to example `b`. -/
theorem resp_apply (x : FVec Ideal S16384x16x32 .f32) (w : FVec Ideal S16x512x32 .f32) (b : Fin 16384) (n : Fin 16)
    (k : Fin 512) : resp (F := Ideal) x w (ix3 b n k) = ∑ d : Fin 32, w (ix3 n k d) * x (ix3 b n d) := by
  unfold resp
  refine (transpose_apply _ _ _ (ix3 b n k) (ix3 n k b) fun a => ?_).trans ?_
  · match a with
    | ⟨0, _⟩ => rfl
    | ⟨1, _⟩ => rfl
    | ⟨2, _⟩ => rfl
  simp only [Host.dotGeneral]
  rw [Ideal.dotGeneral_apply, ← Equiv.sum_comp (contrEquiv1 _ 32 rfl rfl).symm]
  refine Finset.sum_congr rfl fun d _ => ?_
  refine congrArg₂ (· * ·) (congrArg w ?_) (congrArg x ?_)
  · funext a; apply Fin.ext
    match a with
    | ⟨0, _⟩ => rfl
    | ⟨1, _⟩ => rfl
    | ⟨2, _⟩ => rfl
  · funext a; apply Fin.ext
    match a with
    | ⟨0, _⟩ => rfl
    | ⟨1, _⟩ => rfl
    | ⟨2, _⟩ => rfl

/-- A sum over the entries of one channel is a sum over examples and centroids. -/
theorem sum_channel {B N K : ℕ} (p : (⟨3, ![B, N, K]⟩ : Shape).Idx → Prop) [DecidablePred p] (n : Fin N)
    (hp : ∀ i, p i ↔ i 1 = n) (f : (⟨3, ![B, N, K]⟩ : Shape).Idx → EReal) :
    ∑ i ∈ Finset.univ.filter p, f i = ∑ b : Fin B, ∑ k : Fin K, f (ix3 b n k) := by
  rw [← Fintype.sum_prod_type' (f := fun b k => f (ix3 b n k))]
  refine Finset.sum_bij' (fun i _ => ((i 0, i 2) : Fin B × Fin K)) (fun q _ => ix3 q.1 n q.2)
    (fun i _ => Finset.mem_univ _) (fun q _ => Finset.mem_filter.2 ⟨Finset.mem_univ _, (hp _).2 rfl⟩)
    (fun i hi => ?_) (fun q _ => rfl) (fun i hi => ?_)
  · have h := (hp i).1 (Finset.mem_filter.1 hi).2
    subst h
    exact (eq_ix3 i).symm
  · have h := (hp i).1 (Finset.mem_filter.1 hi).2
    subst h
    exact congrArg f (eq_ix3 i)

/-- What the removal of the first and the last axis keeps of an index. -/
theorem drop_channel (i : S16384x16x512.Idx) (n : Fin 16) :
    reducesTo_S16384x16x512_S16_d0_2.drop i = ix1 n ↔ i 1 = n := by
  have h0 : (reducesTo_S16384x16x512_S16_d0_2.drop i : S16.Idx) 0 = i 1 := by apply Fin.ext; rfl
  constructor
  · intro h
    rw [h] at h0
    exact h0.symm
  · intro h
    rw [eq_ix1 (reducesTo_S16384x16x512_S16_d0_2.drop i : S16.Idx), h0, h]
    rfl

/-- A channel's sum as the reference takes it. -/
theorem total_apply (f : FVec Ideal S16384x16x512 .f32) (n : Fin 16) :
    Host.reduceAdd f (constant S_ .f32 0x00000000#32) reducesTo_S16384x16x512_S16_d0_2 h_S_ (ix1 n)
      = ∑ b : Fin 16384, ∑ k : Fin 512, f (ix3 b n k) := by
  rw [hostReduceAdd_apply]
  have hz : (constant S_ .f32 0x00000000#32 : FVec Ideal S_ .f32) (Shape.Idx.first h_S_) = (0 : EReal) := by
    show Ideal.ofBits .f32 0x00000000#32 = 0
    simp [Ideal.ofBits, Ideal.ieee]
  rw [hz]
  unfold Ideal.hostReduceAdd
  rw [zero_add]
  exact sum_channel _ n (fun i => drop_channel i n) f

/-- A number per channel, spread over the array. -/
theorem spread_apply (v : FVec Ideal S1x16x1 .f32) (b : Fin 16384) (n : Fin 16) (k : Fin 512) :
    broadcastInDim S16384x16x512 ![0, 1, 2] bcast_S1x16x1_S16384x16x512_0_1_2 v (ix3 b n k) = v (ix3 (0 : Fin 1) n (0 : Fin 1)) := by
  refine broadcastInDim_apply _ _ _ _ _ fun a => ?_
  match a with
  | ⟨0, _⟩ => rfl
  | ⟨1, _⟩ => rfl
  | ⟨2, _⟩ => rfl

/-- A column of numbers, one per channel, given two axes of size one. -/
theorem lift_apply (v : FVec Ideal S16 .f32) (n : Fin 16) :
    broadcastInDim S1x16x1 ![1] bcast_S16_S1x16x1_1 v (ix3 (0 : Fin 1) n (0 : Fin 1)) = v (ix1 n) := by
  refine broadcastInDim_apply _ _ _ _ _ fun a => ?_
  match a with
  | ⟨0, _⟩ => rfl

/-- The mean of a channel. -/
theorem mean_apply (r : FVec Ideal S16384x16x512 .f32) (n : Fin 16) (ρ : Fin 16384 → Fin 512 → ℝ)
    (h : ∀ b k, r (ix3 b n k) = ((ρ b k : ℝ) : EReal)) :
    mean (F := Ideal) r (ix3 (0 : Fin 1) n (0 : Fin 1)) = ((mu ρ : ℝ) : EReal) := by
  unfold mean
  rw [hostDivf_apply, lift_apply, total_apply, broadcastInDim_scalar_apply]
  have hs : ∑ b : Fin 16384, ∑ k : Fin 512, r (ix3 b n k) = ((∑ b, ∑ k, ρ b k : ℝ) : EReal) := by
    rw [← coe_sum]
    refine Finset.sum_congr rfl fun b _ => ?_
    rw [← coe_sum]
    exact Finset.sum_congr rfl fun k _ => h b k
  rw [hs]
  show Ideal.div _ (Ideal.ofBits .f32 0x4B000000#32) = _
  rw [ofBits_num, div_real _ _ num_pos.ne']
  rfl

/-- The number the variance divides by. -/
theorem count_apply (j : S_.Idx) : count (F := Ideal) j = ((num : ℝ) : EReal) := by
  unfold count
  show Ideal.ofBits .f32 0x4B000000#32 - (((0#32 : BitVec 32).toInt : ℝ) : EReal) = _
  rw [ofBits_num]
  simp

/-- The variance of a channel. -/
theorem var_apply (r : FVec Ideal S16384x16x512 .f32) (n : Fin 16) (ρ : Fin 16384 → Fin 512 → ℝ)
    (h : ∀ b k, r (ix3 b n k) = ((ρ b k : ℝ) : EReal)) :
    var (F := Ideal) r (ix3 (0 : Fin 1) n (0 : Fin 1)) = ((va ρ : ℝ) : EReal) := by
  unfold var
  rw [select_apply, broadcastInDim_scalar_apply]
  have hc : cmpf (F := Ideal) .ogt (count (F := Ideal) : FVec Ideal S_ .f32) (constant S_ .f32 0x00000000#32) ix0 = 1#1 := by
    show Ideal.cmp .ogt ((count (F := Ideal) : FVec Ideal S_ .f32) ix0) (Ideal.ofBits .f32 0x00000000#32) = 1#1
    rw [count_apply, ofBits_zero]
    have h0 : ((0 : ℝ) : EReal) < ((num : ℝ) : EReal) := EReal.coe_lt_coe_iff.mpr num_pos
    rw [Ideal.cmp]
    simp [h0, num_pos]
  rw [hc]
  show Host.divf _ _ (ix3 (0 : Fin 1) n (0 : Fin 1)) = _
  rw [hostDivf_apply, lift_apply, total_apply, broadcastInDim_scalar_apply, count_apply]
  have hs : ∑ b : Fin 16384, ∑ k : Fin 512, dist2 (F := Ideal) r (ix3 b n k)
      = ((∑ b, ∑ k, (ρ b k - mu ρ) * (ρ b k - mu ρ) : ℝ) : EReal) := by
    rw [← coe_sum]
    refine Finset.sum_congr rfl fun b _ => ?_
    rw [← coe_sum]
    refine Finset.sum_congr rfl fun k _ => ?_
    unfold dist2
    rw [mulf_apply, subf_apply, spread_apply, mean_apply r n ρ h, h, ← EReal.coe_sub, ← EReal.coe_mul]
  rw [hs]
  exact div_real _ _ num_pos.ne'

/-- The normalised responses. -/
theorem normed_apply (r : FVec Ideal S16384x16x512 .f32) (g o : FVec Ideal S16 .f32) (n : Fin 16) (ρ : Fin 16384 → Fin 512 → ℝ)
    (h : ∀ b k, r (ix3 b n k) = ((ρ b k : ℝ) : EReal)) (γ β : ℝ) (hg : g (ix1 n) = (γ : EReal)) (ho : o (ix1 n) = (β : EReal))
    (b : Fin 16384) (k : Fin 512) :
    normed (F := Ideal) r g o (ix3 b n k)
      = (((ρ b k - mu ρ) * (1 / Real.sqrt (va ρ + eps)) * γ + β : ℝ) : EReal) := by
  unfold normed
  rw [addf_apply, mulf_apply, hostDivf_apply, subf_apply, spread_apply, spread_apply, spread_apply, spread_apply,
    lift_apply, lift_apply, mean_apply r n ρ h, h, hg, ho]
  have hr : Host.sqrt (F := Ideal) (addf (F := Ideal) (var (F := Ideal) r : FVec Ideal S1x16x1 .f32) (broadcastInDim S1x16x1 ![] bcast_S_S1x16x1 (constant S_ .f32 0x3727C5AC#32)))
      (ix3 (0 : Fin 1) n (0 : Fin 1)) = ((Real.sqrt (va ρ + eps) : ℝ) : EReal) := by
    show Ideal.sqrt (addf (F := Ideal) (var (F := Ideal) r : FVec Ideal S1x16x1 .f32) (broadcastInDim S1x16x1 ![] bcast_S_S1x16x1 (constant S_ .f32 0x3727C5AC#32))
      (ix3 (0 : Fin 1) n (0 : Fin 1))) = _
    rw [addf_apply, var_apply r n ρ h, broadcastInDim_scalar_apply]
    show Ideal.sqrt (((va ρ : ℝ) : EReal) + Ideal.ofBits .f32 0x3727C5AC#32) = _
    rw [ofBits_eps, ← EReal.coe_add, sqrt_real _ (add_nonneg (va_nonneg ρ) eps_pos.le)]
  rw [hr, ← EReal.coe_sub]
  show Ideal.div _ _ * _ + _ = _
  rw [div_real _ _ (root_pos ρ).ne', ← EReal.coe_mul, ← EReal.coe_add, div_eq_mul_one_div]

end Cert.ReferenceIdeal.Whole

end
-- ==== Proof.Equation.lean ====
/-
  The equation of the two programs' arrays, from the four arguments alone: with real examples, centroids and offsets and
  positive real weights the kernel's codes are the reference's, and so are its normalised largest responses.
-/
module

public import proofs.«01_k».proof.Proof.Region0
public import proofs.«01_k».proof.Proof.Region1
public import proofs.«01_k».proof.Proof.RefCode
public import proofs.«01_k».proof.Proof.RefValue

@[expose] public section

set_option maxRecDepth 16384

noncomputable section

namespace Cert.Equation

open Idealize.ShloMosaic Idealize.ShloMosaic.ValueIdx
open Cert.KernelIdeal Cert.KernelIdeal.Gen
open Cert.KernelIdeal.Channel (First feat)
open Cert.KernelIdeal.Region0 (score firstOf firstOf_spec row)
open Cert.KernelIdeal.Region1 (sum1 sum2 factor result result_apply)
open Cert.KernelIdeal.Totals (grp loc)
open Cert.ReferenceIdeal.Whole (resp resp_apply normed normed_apply code code_apply best best_apply)
open Cert.Numbers (num eps mu va ofBits_num ofBits_eps div_real sqrt_real num_pos eps_pos va_nonneg root_pos coe_sum va_eq
  sum_resp sum_resp_sq affine affine_lt)
open scoped BigOperators

/-- The examples laid out for the kernel: one row per feature, one column per example. -/
def examples (a0 : FVec Ideal S16384x16x32 .f32) : FVec Ideal S512x16384 .f32 :=
  shapeCast S512x16384 (transpose S16x32x16384 [1, 2, 0] a0 transposes_S16384x16x32_S16x32x16384_1_2_0) shapeCasts_S16x32x16384_S512x16384

/-- The centroids laid out for the kernel: the features before the centroids. -/
def centroids (a1 : FVec Ideal S16x512x32 .f32) : FVec Ideal S16x32x512 .f32 :=
  transpose S16x32x512 [0, 2, 1] a1 transposes_S16x512x32_S16x32x512_0_2_1

/-- The sums of the examples, feature by feature. -/
def sums (X : FVec Ideal S512x16384 .f32) : FVec Ideal S512x1 .f32 := fun i => ∑ b : Fin 16384, X (ix2 (i 0) b)

/-- The sums of the products of two features of one group. -/
def prods (X : FVec Ideal S512x16384 .f32) : FVec Ideal S4x128x128 .f32 :=
  fun i => ∑ b : Fin 16384, X (ix2 (row (i 0) (i 1)) b) * X (ix2 (row (i 0) (i 2)) b)

/-- The largest responses. -/
def largest (X : FVec Ideal S512x16384 .f32) (W : FVec Ideal S16x32x512 .f32) : FVec Ideal S16x16384 .f32 :=
  fun i => score X W (i 0) (i 1) (firstOf (score X W (i 0) (i 1)))

/-- The codes. -/
def codes (X : FVec Ideal S512x16384 .f32) (W : FVec Ideal S16x32x512 .f32) : IVec S16x16384 32 :=
  fun i => BitVec.ofNat 32 (firstOf (score X W (i 0) (i 1))).val

/-- An example's feature in the kernel's layout. -/
theorem examples_apply (a0 : FVec Ideal S16384x16x32 .f32) (n : Fin 16) (d : Fin 32) (b : Fin 16384) :
    examples a0 (ix2 (feat n d) b) = a0 (ix3 b n d) := by
  unfold examples
  refine (shapeCast_apply _ _ _ (ix3 n d b) ?_).trans (transpose_apply _ _ _ _ _ fun a => ?_)
  · rw [Shape.rowMajor_val_two, Shape.rowMajor_val_three]
    show (n.val * 32 + d.val) * 16384 + b.val = (32 * n.val + d.val) * 16384 + b.val
    omega
  · match a with
    | ⟨0, _⟩ => rfl
    | ⟨1, _⟩ => rfl
    | ⟨2, _⟩ => rfl

/-- A centroid's feature in the kernel's layout. -/
theorem centroids_apply (a1 : FVec Ideal S16x512x32 .f32) (n : Fin 16) (d : Fin 32) (k : Fin 512) :
    centroids a1 (ix3 n d k) = a1 (ix3 n k d) := by
  unfold centroids
  refine transpose_apply _ _ _ _ _ fun a => ?_
  match a with
  | ⟨0, _⟩ => rfl
  | ⟨1, _⟩ => rfl
  | ⟨2, _⟩ => rfl

/-- A feature of a channel within its group is the channel's feature. -/
theorem row_loc (n : Fin 16) (d : Fin 32) : row (grp n) (loc n d) = feat n d := by
  apply Fin.ext
  show 128 * (n.val / 4) + (32 * (n.val % 4) + d.val) = 32 * n.val + d.val
  omega

/-- A column of sixteen numbers is the numbers. -/
theorem column_apply (a : FVec Ideal S16 .f32) (n : Fin 16) : shapeCast S16x1 a shapeCasts_S16_S16x1 (ix2 n 0) = a (ix1 n) := by
  refine shapeCast_apply _ _ _ (ix1 n) ?_
  rw [Shape.rowMajor_val_two, Shape.rowMajor_val_one]
  show n.val = n.val * 1 + 0
  omega

/-- The kernel's response is the reference's. -/
theorem score_eq (a0 : FVec Ideal S16384x16x32 .f32) (a1 : FVec Ideal S16x512x32 .f32) (n : Fin 16) (b : Fin 16384) (k : Fin 512) :
    score (examples a0) (centroids a1) n b k = resp (F := Ideal) a0 a1 (ix3 b n k) := by
  rw [resp_apply]
  unfold score
  refine Finset.sum_congr rfl fun d _ => ?_
  rw [examples_apply, centroids_apply]

section Real

variable (a0 : FVec Ideal S16384x16x32 .f32) (a1 : FVec Ideal S16x512x32 .f32) (a2 a3 : FVec Ideal S16 .f32)
variable (x : Fin 16384 → Fin 16 → Fin 32 → ℝ) (w : Fin 16 → Fin 512 → Fin 32 → ℝ) (γ β : Fin 16 → ℝ)

/-- A channel's responses as real numbers. -/
def rho (n : Fin 16) (b : Fin 16384) (k : Fin 512) : ℝ := ∑ d : Fin 32, w n k d * x b n d

/-- A channel's normalised responses as real numbers. -/
def norm (n : Fin 16) (r : ℝ) : ℝ :=
  (r - mu (rho x w n)) * (1 / Real.sqrt (va (rho x w n) + eps)) * γ n + β n

variable (h0 : ∀ b n d, a0 (ix3 b n d) = ((x b n d : ℝ) : EReal)) (h1 : ∀ n k d, a1 (ix3 n k d) = ((w n k d : ℝ) : EReal))

include h0 h1

/-- The reference's responses are real. -/
theorem resp_real (n : Fin 16) (b : Fin 16384) (k : Fin 512) :
    resp (F := Ideal) a0 a1 (ix3 b n k) = ((rho x w n b k : ℝ) : EReal) := by
  rw [resp_apply]
  unfold rho
  rw [← coe_sum]
  refine Finset.sum_congr rfl fun d _ => ?_
  rw [h0, h1, EReal.coe_mul]

/-- The kernel's sum of a channel's responses is their sum. -/
theorem sum1_real (n : Fin 16) :
    sum1 (centroids a1) (sums (examples a0)) n = ((∑ b, ∑ k, rho x w n b k : ℝ) : EReal) := by
  have e := sum_resp (fun (d : Fin 32) (k : Fin 512) => w n k d) (fun (d : Fin 32) (b : Fin 16384) => x b n d)
  refine Eq.trans ?_ (congrArg (fun r : ℝ => (r : EReal)) e)
  unfold sum1
  rw [← coe_sum]
  refine Finset.sum_congr rfl fun k _ => ?_
  rw [← coe_sum]
  refine Finset.sum_congr rfl fun d _ => ?_
  rw [centroids_apply, h1, EReal.coe_mul, ← coe_sum]
  refine congrArg₂ (· * ·) rfl ?_
  show ∑ b : Fin 16384, examples a0 (ix2 (feat n d) b) = _
  refine Finset.sum_congr rfl fun b _ => ?_
  rw [examples_apply, h0]

/-- The kernel's sum of a channel's squared responses is their sum. -/
theorem sum2_real (n : Fin 16) :
    sum2 (centroids a1) (prods (examples a0)) n = ((∑ b, ∑ k, rho x w n b k * rho x w n b k : ℝ) : EReal) := by
  have e := sum_resp_sq (fun (d : Fin 32) (k : Fin 512) => w n k d) (fun (d : Fin 32) (b : Fin 16384) => x b n d)
  refine Eq.trans ?_ (congrArg (fun r : ℝ => (r : EReal)) e)
  unfold sum2
  rw [← coe_sum]
  refine Finset.sum_congr rfl fun d _ => ?_
  rw [← coe_sum]
  refine Finset.sum_congr rfl fun k _ => ?_
  rw [centroids_apply, h1, EReal.coe_mul, ← coe_sum]
  refine congrArg₂ (· * ·) (Finset.sum_congr rfl fun f _ => ?_) rfl
  rw [centroids_apply, h1, EReal.coe_mul, ← coe_sum]
  refine congrArg₂ (· * ·) ?_ rfl
  show ∑ b : Fin 16384, examples a0 (ix2 (row (grp n) (loc n d)) b) * examples a0 (ix2 (row (grp n) (loc n f)) b) = _
  refine Finset.sum_congr rfl fun b _ => ?_
  rw [row_loc, row_loc, examples_apply, examples_apply, h0, h0, EReal.coe_mul]

omit h0 h1 in
/-- The kernel's factor of a channel. -/
theorem factor_real (r : Fin 16384 → Fin 512 → ℝ) (g : ℝ) :
    factor ((∑ b, ∑ k, r b k : ℝ) : EReal) ((∑ b, ∑ k, r b k * r b k : ℝ) : EReal) ((num : ℝ) : EReal) ((g : ℝ) : EReal)
      = ((g * (1 / Real.sqrt (va r + eps)) : ℝ) : EReal) := by
  unfold factor
  rw [div_real _ _ num_pos.ne', div_real _ _ num_pos.ne', ofBits_eps, ← EReal.coe_mul, ← EReal.coe_sub, ← EReal.coe_add]
  have e : (∑ b, ∑ k, r b k * r b k) / num - (∑ b, ∑ k, r b k) / num * ((∑ b, ∑ k, r b k) / num) = va r := (va_eq r).symm
  rw [e, sqrt_real _ (add_nonneg (va_nonneg r) eps_pos.le), div_real _ _ (root_pos r).ne', div_eq_mul_one_div]

/-- The kernel's normalised largest response of a channel and an example. -/
theorem result_real (h2 : ∀ n, a2 (ix1 n) = ((γ n : ℝ) : EReal)) (h3 : ∀ n, a3 (ix1 n) = ((β n : ℝ) : EReal))
    (N : FVec Ideal S1x1 .f32) (hN : N (ix2 0 0) = ((num : ℝ) : EReal)) (n : Fin 16) (b : Fin 16384) :
    result (largest (examples a0) (centroids a1)) (sums (examples a0)) (prods (examples a0)) (centroids a1)
        (shapeCast S16x1 a2 shapeCasts_S16_S16x1) (shapeCast S16x1 a3 shapeCasts_S16_S16x1) N (ix2 n b)
      = ((norm x w γ β n (rho x w n b (firstOf (score (examples a0) (centroids a1) n b))) : ℝ) : EReal) := by
  rw [result_apply, column_apply, column_apply, h2, h3, hN, sum1_real a0 a1 x w h0 h1, sum2_real a0 a1 x w h0 h1, factor_real,
    div_real _ _ num_pos.ne']
  have hl : largest (examples a0) (centroids a1) (ix2 n b)
      = ((rho x w n b (firstOf (score (examples a0) (centroids a1) n b)) : ℝ) : EReal) :=
    (score_eq a0 a1 n b _).trans (resp_real a0 a1 x w h0 h1 n b _)
  rw [hl, ← EReal.coe_mul, ← EReal.coe_mul, ← EReal.coe_sub, ← EReal.coe_add]
  exact congrArg (fun r : ℝ => (r : EReal)) (affine _ _ _ _ _)

/-- The reference's normalised responses are real. -/
theorem normed_real (h2 : ∀ n, a2 (ix1 n) = ((γ n : ℝ) : EReal)) (h3 : ∀ n, a3 (ix1 n) = ((β n : ℝ) : EReal))
    (n : Fin 16) (b : Fin 16384) (k : Fin 512) :
    normed (F := Ideal) (resp (F := Ideal) a0 a1) a2 a3 (ix3 b n k) = ((norm x w γ β n (rho x w n b k) : ℝ) : EReal) :=
  normed_apply (resp (F := Ideal) a0 a1) a2 a3 n (rho x w n) (fun b k => resp_real a0 a1 x w h0 h1 n b k) (γ n) (β n) (h2 n) (h3 n) b k

/-- The first largest response is the first largest normalised response. -/
theorem first_normed (h2 : ∀ n, a2 (ix1 n) = ((γ n : ℝ) : EReal)) (h3 : ∀ n, a3 (ix1 n) = ((β n : ℝ) : EReal))
    (hp : ∀ n, 0 < γ n) (n : Fin 16) (b : Fin 16384) :
    First (fun k => normed (F := Ideal) (resp (F := Ideal) a0 a1) a2 a3 (ix3 b n k))
      (firstOf (score (examples a0) (centroids a1) n b)) := by
  have hs : ∀ k, score (examples a0) (centroids a1) n b k = ((rho x w n b k : ℝ) : EReal) := fun k =>
    (score_eq a0 a1 n b k).trans (resp_real a0 a1 x w h0 h1 n b k)
  have hf := First.map (firstOf_spec (score (examples a0) (centroids a1) n b))
    (fun e => ((norm x w γ β n e.toReal : ℝ) : EReal)) fun i j hij => by
      rw [hs, hs] at hij ⊢
      rw [EReal.toReal_coe, EReal.toReal_coe]
      exact EReal.coe_lt_coe_iff.mpr (affine_lt _ _ _ _ _ _ (root_pos _) (hp n) (EReal.coe_lt_coe_iff.mp hij))
  have he : (fun k => normed (F := Ideal) (resp (F := Ideal) a0 a1) a2 a3 (ix3 b n k))
      = fun k => ((norm x w γ β n (score (examples a0) (centroids a1) n b k).toReal : ℝ) : EReal) := by
    funext k
    rw [hs, EReal.toReal_coe]
    exact normed_real a0 a1 a2 a3 x w γ β h0 h1 h2 h3 n b k
  rw [he]
  exact hf

/-- The codes are the reference's. -/
theorem codes_eq (h2 : ∀ n, a2 (ix1 n) = ((γ n : ℝ) : EReal)) (h3 : ∀ n, a3 (ix1 n) = ((β n : ℝ) : EReal)) (hp : ∀ n, 0 < γ n) :
    transpose S16384x16 [1, 0] (codes (examples a0) (centroids a1)) transposes_S16x16384_S16384x16_1_0
      = code (F := Ideal) (normed (F := Ideal) (resp (F := Ideal) a0 a1) a2 a3) := by
  funext j
  obtain ⟨b, n, rfl⟩ : ∃ (b : Fin 16384) (n : Fin 16), j = ix2 b n := ⟨_, _, eq_ix2 j⟩
  rw [code_apply _ b n (firstOf (score (examples a0) (centroids a1) n b)) (fun k => ?_)
    (first_normed a0 a1 a2 a3 x w γ β h0 h1 h2 h3 hp n b)]
  · refine (transpose_apply _ _ _ (ix2 b n) (ix2 n b) fun a => ?_).trans rfl
    match a with
    | ⟨0, _⟩ => rfl
    | ⟨1, _⟩ => rfl
  · rw [normed_real a0 a1 a2 a3 x w γ β h0 h1 h2 h3]
    exact EReal.coe_ne_bot _

/-- The normalised largest responses are the reference's. -/
theorem mse_eq (h2 : ∀ n, a2 (ix1 n) = ((γ n : ℝ) : EReal)) (h3 : ∀ n, a3 (ix1 n) = ((β n : ℝ) : EReal)) (hp : ∀ n, 0 < γ n)
    (N : FVec Ideal S1x1 .f32) (hN : N (ix2 0 0) = ((num : ℝ) : EReal)) :
    transpose S16384x16 [1, 0] (result (largest (examples a0) (centroids a1)) (sums (examples a0)) (prods (examples a0)) (centroids a1)
        (shapeCast S16x1 a2 shapeCasts_S16_S16x1) (shapeCast S16x1 a3 shapeCasts_S16_S16x1) N) transposes_S16x16384_S16384x16_1_0
      = best (F := Ideal) (normed (F := Ideal) (resp (F := Ideal) a0 a1) a2 a3) := by
  funext j
  obtain ⟨b, n, rfl⟩ : ∃ (b : Fin 16384) (n : Fin 16), j = ix2 b n := ⟨_, _, eq_ix2 j⟩
  rw [best_apply _ b n (firstOf (score (examples a0) (centroids a1) n b)) (first_normed a0 a1 a2 a3 x w γ β h0 h1 h2 h3 hp n b),
    normed_real a0 a1 a2 a3 x w γ β h0 h1 h2 h3]
  refine (transpose_apply _ _ _ (ix2 b n) (ix2 n b) fun a => ?_).trans (result_real a0 a1 a2 a3 x w γ β h0 h1 h2 h3 N hN n b)
  match a with
  | ⟨0, _⟩ => rfl
  | ⟨1, _⟩ => rfl

end Real

end Cert.Equation

end
-- ==== Proof.PreFacts.lean ====
/-
  What the precondition says of the arguments: every example, centroid and offset is a real number, and every weight a
  positive real number.
-/
module

public import proofs.«01_k».proof.Defs
public import Idealize.ShloMosaic.Lib.ReduceAll
public import Idealize.ShloMosaic.Lib.ValueIdx
public import Idealize.ShloMosaic.Lib.IdealHost

@[expose] public section

noncomputable section

namespace Cert.PreFacts

open Idealize.ShloMosaic Idealize.ShloMosaic.ValueIdx
open Cert.Pre_real_data

/-- The conjunction of two arrays of truth values. -/
theorem both {s : Shape} (a b : IVec s 1) (j : s.Idx) (h : andi a b j = 1#1) : a j = 1#1 ∧ b j = 1#1 :=
  IntOp.andi_eq_one.1 h

/-- There is one index of the shape without axes. -/
theorem one_index (i j : S_.Idx) : i = j := by funext a; exact a.elim0

instance : Subsingleton S_.Idx := ⟨one_index⟩

/-- The word of the largest value. -/
theorem top_word : Ideal.ofBits .f32 0x7F800000#32 = (⊤ : EReal) := by simp [Ideal.ofBits, Ideal.ieee]

/-- A comparison that holds, read back. -/
theorem of_lt (x y : EReal) (h : Ideal.cmp .olt x y = 1#1) : x < y := by
  by_contra hn
  rw [Ideal.cmp] at h
  simp [hn] at h

/-- A comparison that holds, read back. -/
theorem of_gt (x y : EReal) (h : Ideal.cmp .ogt x y = 1#1) : y < x := by
  by_contra hn
  rw [Ideal.cmp] at h
  simp [hn] at h

/-- A number whose distance to zero is below the largest value is real. -/
theorem real_of_abs (x : EReal) (h : max x (-x) < ⊤) : ∃ r : ℝ, x = (r : EReal) := by
  induction x using EReal.rec with
  | bot => simp at h
  | top => simp at h
  | coe r => exact ⟨r, rfl⟩

/-- A number between zero and the largest value is real and positive. -/
theorem real_of_between (x : EReal) (h0 : 0 < x) (h1 : x < ⊤) : ∃ r : ℝ, 0 < r ∧ x = (r : EReal) := by
  induction x using EReal.rec with
  | bot => simp at h0
  | top => simp at h1
  | coe r => exact ⟨r, by exact_mod_cast h0, rfl⟩

/-- An array all of whose entries are at a finite distance from zero. -/
theorem finite_of {s t : Shape} {axes : List (Fin s.rank)} [Subsingleton t.Idx] (a : FVec Ideal s .f32)
    (top : FVec Ideal s .f32) (htop : ∀ i, top i = (⊤ : EReal)) (init : S_.Idx → BitVec 1) (h : s.ReducesTo axes t)
    (hu : 0 < S_.numel) (j : t.Idx) (e : Host.reduce IntOp.andi (cmpf .olt (Host.absf a) top) init h hu j = 1#1) (i : s.Idx) :
    ∃ r : ℝ, a i = (r : EReal) := by
  have h1 := Host.reduce_andi_all _ _ _ _ _ e i
  have h2 : max (a i) (-(a i)) < top i := of_lt _ _ h1
  rw [htop] at h2
  exact real_of_abs _ h2

variable [Facts]

/-- The precondition, entry by entry. -/
theorem entries (a0 : FVec Ideal S16384x16x32 .f32) (a1 : FVec Ideal S16x512x32 .f32) (a2 a3 : FVec Ideal S16 .f32)
    (h : fn (F := Ideal) a0 a1 a2 a3 = fun _ => 1#1) :
    (∀ i, ∃ r : ℝ, a0 i = (r : EReal)) ∧ (∀ i, ∃ r : ℝ, a1 i = (r : EReal))
      ∧ (∀ i, ∃ r : ℝ, 0 < r ∧ a2 i = (r : EReal)) ∧ (∀ i, ∃ r : ℝ, a3 i = (r : EReal)) := by
  have h0 := congrFun h ix0
  unfold fn fn_part1 at h0
  dsimp only at h0
  obtain ⟨h15, h19⟩ := both _ _ _ h0
  obtain ⟨h8, h14⟩ := both _ _ _ h15
  obtain ⟨h3, h7⟩ := both _ _ _ h8
  refine ⟨finite_of a0 _ (fun i => ?_) _ _ _ _ h3, finite_of a1 _ (fun i => ?_) _ _ _ _ h7, fun i => ?_,
    finite_of a3 _ (fun i => ?_) _ _ _ _ h19⟩
  · rw [broadcastInDim_scalar_apply]; exact top_word
  · rw [broadcastInDim_scalar_apply]; exact top_word
  · have h1 := Host.reduce_andi_all _ _ _ _ _ h14 i
    obtain ⟨hp, hq⟩ := both _ _ _ h1
    have hp' := of_gt _ _ hp
    have hq' := of_lt _ _ hq
    rw [broadcastInDim_scalar_apply] at hp' hq'
    refine real_of_between (a2 i) (lt_of_eq_of_lt ?_ hp') (lt_of_lt_of_eq hq' top_word)
    show (0 : EReal) = Ideal.ofBits .f32 0x00000000#32
    simp [Ideal.ofBits, Ideal.ieee]
  · rw [broadcastInDim_scalar_apply]; exact top_word

end Cert.PreFacts

end
-- ==== Proof.Algebraic.lean ====
/-
  The value claim: the kernel and the reference, started from the same arguments, end with the same results.
-/
module

public import proofs.«01_k».proof.Proof.Equation
public import proofs.«01_k».proof.Proof.KernelRun
public import proofs.«01_k».proof.Proof.PreFacts
public import proofs.«01_k».proof.Proof.Gen.Pre_real_data

@[expose] public section

set_option maxRecDepth 16384

noncomputable section

namespace Cert.Proof

open Idealize.ShloMosaic Idealize.ShloMosaic.ValueIdx Idealize.ShloMosaic.TcCoe Idealize.SL.Sem
open Cert.KernelIdeal Cert.KernelIdeal.Gen Cert.KernelIdeal.Whole
open Cert.Equation (examples centroids sums prods largest codes)
open Cert.KernelIdeal.Region1 (result)

variable (m : (ℓ : Loc nD τ sig) → Buf (Elt Ideal) ℓ) (ρ : Dev nD → PrngReg)

/-- The kernel's first argument on a device. -/
abbrev inp (c : Dev nD) : FVec Ideal S16384x16x32 .f32 := m ((c : Thread nD τ).loc main_arg0)
/-- The kernel's second argument on a device. -/
abbrev cen (c : Dev nD) : FVec Ideal S16x512x32 .f32 := m ((c : Thread nD τ).loc main_arg1)
/-- The kernel's third argument on a device. -/
abbrev wei (c : Dev nD) : FVec Ideal S16 .f32 := m ((c : Thread nD τ).loc main_arg2)
/-- The kernel's fourth argument on a device. -/
abbrev off (c : Dev nD) : FVec Ideal S16 .f32 := m ((c : Thread nD τ).loc main_arg3)

/-- The first region finds the examples in the kernel's layout. -/
theorem X_eq (c : Dev nD) : Region0.X (V1 m ρ) c = examples (inp m c) := V1_v1 m ρ c

/-- The first region finds the centroids in the kernel's layout. -/
theorem Wt_eq (c : Dev nD) : Region0.Wt (V1 m ρ) c = centroids (cen m c) := V1_v2 m ρ c

/-- The array of codes, from the arguments. -/
theorem codesArr_eq (c : Dev nD) : codesArr m ρ c = codes (examples (inp m c)) (centroids (cen m c)) := by
  have e := Region0.codes (V1 m ρ) c
  rw [X_eq, Wt_eq] at e
  exact e

/-- The array of normalised largest responses, from the arguments. -/
theorem mseArr_eq (c : Dev nD) : mseArr m ρ c
    = result (largest (examples (inp m c)) (centroids (cen m c))) (sums (examples (inp m c))) (prods (examples (inp m c)))
        (centroids (cen m c)) (shapeCast S16x1 (wei m c) shapeCasts_S16_S16x1) (shapeCast S16x1 (off m c) shapeCasts_S16_S16x1)
        (broadcastInDim S1x1 ![] bcast_S_S1x1 (constant S_ .f32 0x4B000000#32) : FVec Ideal S1x1 .f32) := by
  have e := Region1.arr (V3 m ρ) c
  have e1 := Region0.best (V1 m ρ) c
  have e2 := Region0.sums (V1 m ρ) c
  have e3 := Region0.prods (V1 m ρ) c
  rw [X_eq, Wt_eq] at e1
  rw [X_eq] at e2 e3
  have f1 : V3 m ρ c main_v3_1 = largest (examples (inp m c)) (centroids (cen m c)) := (V3_v3_1 m ρ c).trans e1
  have f2 : V3 m ρ c main_v3_2 = sums (examples (inp m c)) := (V3_v3_2 m ρ c).trans e2
  have f3 : V3 m ρ c main_v3_3 = prods (examples (inp m c)) := (V3_v3_3 m ρ c).trans e3
  have f4 : V3 m ρ c main_v2 = centroids (cen m c) := (V3_v2 m ρ c).trans (V1_v2 m ρ c)
  rw [f1, f2, f3, f4, V3_v4, V3_v5, V3_v6] at e
  exact e

/-- The number of responses the second region divides by. -/
theorem num_apply : (broadcastInDim S1x1 ![] bcast_S_S1x1 (constant S_ .f32 0x4B000000#32) : FVec Ideal S1x1 .f32) (ix2 0 0)
    = ((Cert.Numbers.num : ℝ) : EReal) := by
  rw [broadcastInDim_scalar_apply]
  exact Cert.Numbers.ofBits_num

/-- The reference's normalised responses from the kernel's arguments. -/
def want (c : Dev nD) : FVec Ideal Cert.ReferenceIdeal.S16384x16x512 .f32 :=
  Cert.ReferenceIdeal.Whole.normed (F := Ideal) (Cert.ReferenceIdeal.Whole.resp (F := Ideal) (inp m c) (cen m c)) (wei m c) (off m c)

/-- Under the precondition the kernel's two computed results are the reference's codes and largest responses. -/
theorem results_eq (h : @Cert.Pre_KernelIdeal_real_data Cert.Pre_real_data.Gen.facts m) (c : Dev nD) :
    transpose S16384x16 [1, 0] (codesArr m ρ c) transposes_S16x16384_S16384x16_1_0
        = Cert.ReferenceIdeal.Whole.code (F := Ideal) (want m c)
      ∧ transpose S16384x16 [1, 0] (mseArr m ρ c) transposes_S16x16384_S16384x16_1_0
        = Cert.ReferenceIdeal.Whole.best (F := Ideal) (want m c) := by
  haveI := Cert.Pre_real_data.Gen.facts
  obtain ⟨h0, h1, h2, h3⟩ := Cert.PreFacts.entries (inp m c) (cen m c) (wei m c) (off m c) (h c)
  choose x hx using h0
  choose w hw using h1
  choose g hg using h2
  choose o ho using h3
  rw [codesArr_eq, mseArr_eq]
  exact ⟨Cert.Equation.codes_eq (inp m c) (cen m c) (wei m c) (off m c) (fun b n d => x (ix3 b n d)) (fun n k d => w (ix3 n k d))
      (fun n => g (ix1 n)) (fun n => o (ix1 n)) (fun b n d => hx _) (fun n k d => hw _) (fun n => (hg _).2) (fun n => ho _)
      (fun n => (hg _).1),
    Cert.Equation.mse_eq (inp m c) (cen m c) (wei m c) (off m c) (fun b n d => x (ix3 b n d)) (fun n k d => w (ix3 n k d))
      (fun n => g (ix1 n)) (fun n => o (ix1 n)) (fun b n d => hx _) (fun n k d => hw _) (fun n => (hg _).2) (fun n => ho _)
      (fun n => (hg _).1) _ num_apply⟩

/-- The kernel and the reference end with the same three results. -/
theorem algebraic : @Cert.algebraic_KernelIdeal_ReferenceIdeal_pre_real_data Cert.KernelIdeal.Gen.facts
    Cert.ReferenceIdeal.Gen.facts Cert.Pre_real_data.Gen.facts := by
  intro m ρ m' ρ' hpre hargs
  have hout : ∀ c, Cert.ReferenceIdeal.Whole.out m' c = want m c := fun c => by
    obtain ⟨a0, a1, a2, a3⟩ := hargs c
    unfold Cert.ReferenceIdeal.Whole.out
    rw [a0, a1, a2, a3]
    rfl
  refine ⟨fun c => Cert.ReferenceIdeal.Whole.code (F := Ideal) (want m c), fun c => Cert.ReferenceIdeal.Whole.best (F := Ideal) (want m c),
    fun c => cen m c, ?_, ?_⟩
  · refine (θ_run defs _ _).mono (fun r hr c => ?_) (Cert.KernelIdeal.Whole.run m ρ)
    obtain ⟨r8, r9, r0, r1, r2, r3⟩ := hr.1 c
    obtain ⟨e8, e9⟩ := results_eq m ρ hpre c
    exact ⟨r8.trans e8, r9.trans e9, r1, r0, r1, r2, r3⟩
  · refine (θ_run Cert.ReferenceIdeal.defs _ _).mono (fun r hr c => ?_) (Cert.ReferenceIdeal.Whole.run m' ρ')
    obtain ⟨r21, r20, r0, r1, r2, r3⟩ := hr.1 c
    rw [hout c] at r21 r20
    exact ⟨r21, r20, r1.trans (hargs c).2.1, r0, r1, r2, r3⟩

end Cert.Proof

end
-- ==== Proof.lean ====
/-
  The certificate of the kernel: its claims, each from the module that proves it.
-/
module

public import proofs.«01_k».proof.Defs
public import proofs.«01_k».proof.Proof.Frames
public import proofs.«01_k».proof.Proof.Algebraic

@[expose] public section

noncomputable section

namespace Cert.Proof

/-- Everything the certificate claims. -/
theorem claim : Cert.Claim :=
  ⟨Cert.Kernel.Gen.facts, Cert.KernelIdeal.Gen.facts, Cert.ReferenceIdeal.Gen.facts, Cert.Pre_real_data.Gen.facts,
    frameKernel, frameKernelIdeal, fun m ρ _ => frameKernelIdeal m ρ trivial, frameReferenceIdeal,
    fun m ρ _ => frameReferenceIdeal m ρ trivial, trivial, algebraic⟩

end Cert.Proof

end
